-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_crystals_named [hPre_crystals_named : Cert.Pre_crystals_named.Facts] (m : (ℓ : Loc Cert.KernelIdeal.nD Cert.KernelIdeal.τ Cert.KernelIdeal.sig) → Buf (Elt Ideal) ℓ) : Prop :=
  ∀ c : Dev Cert.KernelIdeal.nD,
    (Cert.Pre_crystals_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_crystals_named [hPre_crystals_named : Cert.Pre_crystals_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_crystals_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_crystals_named [hKernelIdeal : Cert.KernelIdeal.Facts] [hPre_crystals_named : Cert.Pre_crystals_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_crystals_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_crystals_named [hReferenceIdeal : Cert.ReferenceIdeal.Facts] [hPre_crystals_named : Cert.Pre_crystals_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_crystals_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_crystals_named [hKernelIdeal : Cert.KernelIdeal.Facts] [hReferenceIdeal : Cert.ReferenceIdeal.Facts] [hPre_crystals_named : Cert.Pre_crystals_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_crystals_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_crystals_named : Cert.Pre_crystals_named.Facts),
    quiescent_Kernel (hKernel := hKernel)
    ∧ quiescent_KernelIdeal (hKernelIdeal := hKernelIdeal)
    ∧ quiescent_KernelIdeal_pre_crystals_named (hKernelIdeal := hKernelIdeal) (hPre_crystals_named := hPre_crystals_named)
    ∧ quiescent_ReferenceIdeal (hReferenceIdeal := hReferenceIdeal)
    ∧ quiescent_ReferenceIdeal_pre_crystals_named (hReferenceIdeal := hReferenceIdeal) (hPre_crystals_named := hPre_crystals_named)
    ∧ preserves_Kernel_KernelIdeal
    ∧ algebraic_KernelIdeal_ReferenceIdeal_pre_crystals_named (hKernelIdeal := hKernelIdeal) (hReferenceIdeal := hReferenceIdeal) (hPre_crystals_named := hPre_crystals_named)
-- ==== Pre_crystals_named.lean ====
abbrev S160000x128 : Shape := ⟨2, ![160000, 128]⟩
abbrev S320000x16 : Shape := ⟨2, ![320000, 16]⟩
abbrev S320000x2 : Shape := ⟨2, ![320000, 2]⟩
abbrev S160000 : Shape := ⟨1, ![160000]⟩
abbrev S320000 : Shape := ⟨1, ![320000]⟩
abbrev S272x256 : Shape := ⟨2, ![272, 256]⟩
abbrev S256 : Shape := ⟨1, ![256]⟩
abbrev S128x1 : Shape := ⟨2, ![128, 1]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S320000 : S_.BroadcastsInDim S320000 (![] : Fin 0 → Fin S320000.rank)

variable [Facts]

def fn {F : FTy → Type} [FloatOps F] (main_arg0 : FVec F S160000x128 .f32) (main_arg1 : FVec F S320000x16 .f32) (main_arg2 : IVec S320000x2 32) (main_arg3 : IVec S160000 32) (main_arg4 : IVec S320000 32) (main_arg5 : FVec F S272x256 .f32) (main_arg6 : FVec F S256 .f32) (main_arg7 : FVec F S256 .f32) (main_arg8 : FVec F S128x1 .f32) (main_arg9 : FVec F S128 .f32) (main_arg10 : FVec F S128 .f32) (main_arg11 : FVec F S128 .f32) (main_arg12 : FVec F S128 .f32) (main_arg13 : FVec F S128x64 .f32) (main_arg14 : FVec F S64 .f32) (main_arg15 : FVec F S64x128 .f32) (main_arg16 : FVec F S128 .f32) (main_arg17 : FVec F S128x64 .f32) (main_arg18 : FVec F S64 .f32) (main_arg19 : FVec F S64x128 .f32) (main_arg20 : FVec F S128 .f32) : IVec S320000 1 :=
  let main_c : IVec S_ 32 := constantI S_ 32 0#32
  let main_v0 : IVec S320000 32 := broadcastInDim S320000 ![] bcast_S_S320000 main_c
  let main_v1 : IVec S320000 1 := cmpi .sge main_arg4 main_v0
  let main_c_0 : IVec S_ 32 := constantI S_ 32 256#32
  let main_v2 : IVec S320000 32 := broadcastInDim S320000 ![] bcast_S_S320000 main_c_0
  let main_v3 : IVec S320000 1 := cmpi .slt main_arg4 main_v2
  let main_v4 : IVec S320000 1 := andi main_v1 main_v3
  main_v4
-- ==== Kernel.lean ====
abbrev S160000x128 : Shape := ⟨2, ![160000, 128]⟩
abbrev S320000x16 : Shape := ⟨2, ![320000, 16]⟩
abbrev S320000x2 : Shape := ⟨2, ![320000, 2]⟩
abbrev S160000 : Shape := ⟨1, ![160000]⟩
abbrev S320000 : Shape := ⟨1, ![320000]⟩
abbrev S272x256 : Shape := ⟨2, ![272, 256]⟩
abbrev S256 : Shape := ⟨1, ![256]⟩
abbrev S128x1 : Shape := ⟨2, ![128, 1]⟩
abbrev S128 : Shape := ⟨1, ![128]⟩
abbrev S128x64 : Shape := ⟨2, ![128, 64]⟩
abbrev S64 : Shape := ⟨1, ![64]⟩
abbrev S64x128 : Shape := ⟨2, ![64, 128]⟩
abbrev S320000x1 : Shape := ⟨2, ![320000, 1]⟩
abbrev S_ : Shape := ⟨0, ![]⟩
abbrev S320000x2x1 : Shape := ⟨3, ![320000, 2, 1]⟩
abbrev S320000x2x128 : Shape := ⟨3, ![320000, 2, 128]⟩
abbrev S320000x256 : Shape := ⟨2, ![320000, 256]⟩
abbrev S320000x272 : Shape := ⟨2, ![320000, 272]⟩
abbrev S256x256 : Shape := ⟨2, ![256, 256]⟩
abbrev S1x256 : Shape := ⟨2, ![1, 256]⟩
abbrev S6400x272 : Shape := ⟨2, ![6400, 272]⟩
abbrev S6400x1 : Shape := ⟨2, ![6400, 1]⟩
abbrev S6400x256 : Shape := ⟨2, ![6400, 256]⟩
abbrev S256x6400 : Shape := ⟨2, ![256, 6400]⟩
abbrev S1x128 : Shape := ⟨2, ![1, 128]⟩
abbrev S320000x128 : Shape := ⟨2, ![320000, 128]⟩
abbrev S6400x128 : Shape := ⟨2, ![6400, 128]⟩
abbrev S256x1 : Shape := ⟨2, ![256, 1]⟩
abbrev S6400 : Shape := ⟨1, ![6400]⟩
abbrev S160000x1 : Shape := ⟨2, ![160000, 1]⟩
abbrev S1x64 : Shape := ⟨2, ![1, 64]⟩
abbrev S6400x64 : Shape := ⟨2, ![6400, 64]⟩

abbrev nBuf : Space → Nat
  | .hbm => 61
  | .vmem => 45
  | .smem => 0
  | _ => 0

abbrev bufTy : (tb : Table) → Fin (tcTables nBuf tb) → BufTy
  | .hbm, ⟨0, _⟩ => ⟨S160000x128, .f32⟩
  | .hbm, ⟨1, _⟩ => ⟨S320000x16, .f32⟩
  | .hbm, ⟨2, _⟩ => ⟨S320000x2, .i32⟩
  | .hbm, ⟨3, _⟩ => ⟨S160000, .i32⟩
  | .hbm, ⟨4, _⟩ => ⟨S320000, .i32⟩
  | .hbm, ⟨5, _⟩ => ⟨S272x256, .f32⟩
  | .hbm, ⟨6, _⟩ => ⟨S256, .f32⟩
  | .hbm, ⟨7, _⟩ => ⟨S256, .f32⟩
  | .hbm, ⟨8, _⟩ => ⟨S128x1, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x128, .f32⟩
  | .hbm, ⟨16, _⟩ => ⟨S128, .f32⟩
  | .hbm, ⟨17, _⟩ => ⟨S128x64, .f32⟩
  | .hbm, ⟨18, _⟩ => ⟨S64, .f32⟩
  | .hbm, ⟨19, _⟩ => ⟨S64x128, .f32⟩
  | .hbm, ⟨20, _⟩ => ⟨S128, .f32⟩
  | .hbm, ⟨21, _⟩ => ⟨S320000x1, .i32⟩
  | .hbm, ⟨22, _⟩ => ⟨S320000, .i32⟩
  | .hbm, ⟨23, _⟩ => ⟨S_, .i32⟩
  | .hbm, ⟨24, _⟩ => ⟨S320000x2, .i32⟩
  | .hbm, ⟨25, _⟩ => ⟨S320000x2, .i1⟩
  | .hbm, ⟨26, _⟩ => ⟨S_, .i32⟩
  | .hbm, ⟨27, _⟩ => ⟨S320000x2, .i32⟩
  | .hbm, ⟨28, _⟩ => ⟨S320000x2, .i32⟩
  | .hbm, ⟨29, _⟩ => ⟨S320000x2, .i32⟩
  | .hbm, ⟨30, _⟩ => ⟨S320000x2x1, .i32⟩
  | .hbm, ⟨31, _⟩ => ⟨S320000x2x128, .f32⟩
  | .hbm, ⟨32, _⟩ => ⟨S320000x256, .f32⟩
  | .hbm, ⟨33, _⟩ => ⟨S320000x272, .f32⟩
  | .hbm, ⟨34, _⟩ => ⟨S320000x1, .i32⟩
  | .hbm, ⟨35, _⟩ => ⟨S320000x256, .f32⟩
  | .hbm, ⟨36, _⟩ => ⟨S256x256, .f32⟩
  | .hbm, ⟨37, _⟩ => ⟨S256x256, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x128, .f32⟩
  | .hbm, ⟨42, _⟩ => ⟨S1x128, .f32⟩
  | .hbm, ⟨43, _⟩ => ⟨S320000x128, .f32⟩
  | .hbm, ⟨44, _⟩ => ⟨S_, .f32⟩
  | .hbm, ⟨45, _⟩ => ⟨S160000x128, .f32⟩
  | .hbm, ⟨46, _⟩ => ⟨S320000x1, .i32⟩
  | .hbm, ⟨47, _⟩ => ⟨S160000x128, .f32⟩
  | .hbm, ⟨48, _⟩ => ⟨S_, .f32⟩
  | .hbm, ⟨49, _⟩ => ⟨S320000x1, .f32⟩
  | .hbm, ⟨50, _⟩ => ⟨S_, .f32⟩
  | .hbm, ⟨51, _⟩ => ⟨S160000x1, .f32⟩
  | .hbm, ⟨52, _⟩ => ⟨S320000x1, .i32⟩
  | .hbm, ⟨53, _⟩ => ⟨S160000x1, .f32⟩
  | .hbm, ⟨54, _⟩ => ⟨S1x128, .f32⟩
  | .hbm, ⟨55, _⟩ => ⟨S1x128, .f32⟩
  | .hbm, ⟨56, _⟩ => ⟨S1x64, .f32⟩
  | .hbm, ⟨57, _⟩ => ⟨S1x128, .f32⟩
  | .hbm, ⟨58, _⟩ => ⟨S1x64, .f32⟩
  | .hbm, ⟨59, _⟩ => ⟨S1x128, .f32⟩
  | .hbm, ⟨60, _⟩ => ⟨S160000x128, .f32⟩
  | .local _ .vmem, ⟨0, _⟩ => ⟨S6400x272, .f32⟩
  | .local _ .vmem, ⟨1, _⟩ => ⟨S6400x272, .f32⟩
  | .local _ .vmem, ⟨2, _⟩ => ⟨S6400x1, .i32⟩
  | .local _ .vmem, ⟨3, _⟩ => ⟨S6400x1, .i32⟩
  | .local _ .vmem, ⟨4, _⟩ => ⟨S272x256, .f32⟩
  | .local _ .vmem, ⟨5, _⟩ => ⟨S6400x256, .f32⟩
  | .local _ .vmem, ⟨6, _⟩ => ⟨S6400x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S6400x256, .f32⟩
  | .local _ .vmem, ⟨14, _⟩ => ⟨S6400x256, .f32⟩
  | .local _ .vmem, ⟨15, _⟩ => ⟨S6400x1, .i32⟩
  | .local _ .vmem, ⟨16, _⟩ => ⟨S6400x1, .i32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S128x1, .f32⟩
  | .local _ .vmem, ⟨23, _⟩ => ⟨S1x128, .f32⟩
  | .local _ .vmem, ⟨24, _⟩ => ⟨S1x128, .f32⟩
  | .local _ .vmem, ⟨25, _⟩ => ⟨S6400x128, .f32⟩
  | .local _ .vmem, ⟨26, _⟩ => ⟨S6400x128, .f32⟩
  | .local _ .vmem, ⟨27, _⟩ => ⟨S6400x128, .f32⟩
  | .local _ .vmem, ⟨28, _⟩ => ⟨S6400x128, .f32⟩
  | .local _ .vmem, ⟨29, _⟩ => ⟨S6400x1, .f32⟩
  | .local _ .vmem, ⟨30, _⟩ => ⟨S6400x1, .f32⟩
  | .local _ .vmem, ⟨31, _⟩ => ⟨S6400x128, .f32⟩
  | .local _ .vmem, ⟨32, _⟩ => ⟨S6400x128, .f32⟩
  | .local _ .vmem, ⟨33, _⟩ => ⟨S1x128, .f32⟩
  | .local _ .vmem, ⟨34, _⟩ => ⟨S1x128, .f32⟩
  | .local _ .vmem, ⟨35, _⟩ => ⟨S128x64, .f32⟩
  | .local _ .vmem, ⟨36, _⟩ => ⟨S1x64, .f32⟩
  | .local _ .vmem, ⟨37, _⟩ => ⟨S64x128, .f32⟩
  | .local _ .vmem, ⟨38, _⟩ => ⟨S1x128, .f32⟩
  | .local _ .vmem, ⟨39, _⟩ => ⟨S128x64, .f32⟩
  | .local _ .vmem, ⟨40, _⟩ => ⟨S1x64, .f32⟩
  | .local _ .vmem, ⟨41, _⟩ => ⟨S64x128, .f32⟩
  | .local _ .vmem, ⟨42, _⟩ => ⟨S1x128, .f32⟩
  | .local _ .vmem, ⟨43, _⟩ => ⟨S6400x128, .f32⟩
  | .local _ .vmem, ⟨44, _⟩ => ⟨S6400x128, .f32⟩
  | _, _ => ⟨S160000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12_0 : Ref sig .tc := ⟨.hbm, 35, rfl⟩
abbrev main_v12_1 : Ref sig .tc := ⟨.hbm, 36, rfl⟩
abbrev main_v12_2 : Ref sig .tc := ⟨.hbm, 37, rfl⟩
abbrev main_v12_3 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_cst_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg11_0 : Ref sig .tc := ⟨.vmem, 41, rfl⟩
abbrev cc2_stg12_0 : Ref sig .tc := ⟨.vmem, 42, rfl⟩
abbrev cc2_stg13_0 : Ref sig .tc := ⟨.vmem, 43, rfl⟩
abbrev cc2_stg13_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem10_0 : DmaSem sig := 37
abbrev cc2_sem11_0 : DmaSem sig := 38
abbrev cc2_sem12_0 : DmaSem sig := 39
abbrev cc2_sem13_0 : DmaSem sig := 40
abbrev cc2_sem13_1 : DmaSem sig := 41

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v37 : BitVec 1 := Scalar.cmpi .eq arg0 c49_i32
  let v38 : BitVec 32 := Scalar.extui v37
  let c0_i32_23 : BitVec 32 := 0#32
  let v39 : BitVec 1 := Scalar.cmpi .ne v38 c0_i32_23
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6400x272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S272x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6400x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S6400x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S6400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x128 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S6400x128 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]
-- ==== ReferenceIdeal.lean ====
abbrev S160000x128 : Shape := ⟨2, ![160000, 128]⟩
abbrev S320000x16 : Shape := ⟨2, ![320000, 16]⟩
abbrev S320000x2 : Shape := ⟨2, ![320000, 2]⟩
abbrev S160000 : Shape := ⟨1, ![160000]⟩
abbrev S320000 : Shape := ⟨1, ![320000]⟩
abbrev S272x256 : Shape := ⟨2, ![272, 256]⟩
abbrev S256 : Shape := ⟨1, ![256]⟩
abbrev S128x1 : Shape := ⟨2, ![128, 1]⟩
abbrev S128 : Shape := ⟨1, ![128]⟩
abbrev S128x64 : Shape := ⟨2, ![128, 64]⟩
abbrev S64 : Shape := ⟨1, ![64]⟩
abbrev S64x128 : Shape := ⟨2, ![64, 128]⟩
abbrev S320000x1 : Shape := ⟨2, ![320000, 1]⟩
abbrev S_ : Shape := ⟨0, ![]⟩
abbrev S320000x2x1 : Shape := ⟨3, ![320000, 2, 1]⟩
abbrev S320000x2x128 : Shape := ⟨3, ![320000, 2, 128]⟩
abbrev S320000x256 : Shape := ⟨2, ![320000, 256]⟩
abbrev S320000x272 : Shape := ⟨2, ![320000, 272]⟩
abbrev S256x256 : Shape := ⟨2, ![256, 256]⟩
abbrev S256x1 : Shape := ⟨2, ![256, 1]⟩
abbrev S1x256 : Shape := ⟨2, ![1, 256]⟩
abbrev S320000x128 : Shape := ⟨2, ![320000, 128]⟩
abbrev S1x128 : Shape := ⟨2, ![1, 128]⟩
abbrev S160000x1 : Shape := ⟨2, ![160000, 1]⟩
abbrev S160000x64 : Shape := ⟨2, ![160000, 64]⟩
abbrev S1x64 : Shape := ⟨2, ![1, 64]⟩

abbrev nBuf : Space → Nat
  | .hbm => 251
  | .vmem => 0
  | .smem => 0
  | _ => 0

abbrev hbmTy0_0 (i : Nat) : BufTy := match i % 128 with
  | 0 => ⟨S160000x128, .f32⟩
  | 1 => ⟨S320000x16, .f32⟩
  | 2 => ⟨S320000x2, .i32⟩
  | 3 => ⟨S160000, .i32⟩
  | 4 => ⟨S320000, .i32⟩
  | 5 => ⟨S272x256, .f32⟩
  | 6 => ⟨S256, .f32⟩
  | 7 => ⟨S256, .f32⟩
  | 8 => ⟨S128x1, .f32⟩
  | 9 => ⟨S128, .f32⟩
  | 10 => ⟨S128, .f32⟩
  | 11 => ⟨S128, .f32⟩
  | 12 => ⟨S128, .f32⟩
  | 13 => ⟨S128x64, .f32⟩
  | 14 => ⟨S64, .f32⟩
  | 15 => ⟨S64x128, .f32⟩
  | 16 => ⟨S128, .f32⟩
  | 17 => ⟨S128x64, .f32⟩
  | 18 => ⟨S64, .f32⟩
  | 19 => ⟨S64x128, .f32⟩
  | 20 => ⟨S128, .f32⟩
  | 21 => ⟨S320000x1, .i32⟩
  | 22 => ⟨S320000, .i32⟩
  | 23 => ⟨S_, .i32⟩
  | 24 => ⟨S320000x2, .i32⟩
  | 25 => ⟨S320000x2, .i1⟩
  | 26 => ⟨S_, .i32⟩
  | 27 => ⟨S320000x2, .i32⟩
  | 28 => ⟨S320000x2, .i32⟩
  | 29 => ⟨S320000x2, .i32⟩
  | 30 => ⟨S320000x2x1, .i32⟩
  | 31 => ⟨S320000x2x128, .f32⟩
  | 32 => ⟨S320000x256, .f32⟩
  | 33 => ⟨S320000x272, .f32⟩
  | 34 => ⟨S320000x256, .f32⟩
  | 35 => ⟨S_, .f32⟩
  | 36 => ⟨S256x256, .f32⟩
  | 37 => ⟨S320000x1, .i32⟩
  | 38 => ⟨S256x256, .f32⟩
  | 39 => ⟨S_, .f32⟩
  | 40 => ⟨S320000x1, .f32⟩
  | 41 => ⟨S_, .f32⟩
  | 42 => ⟨S256x1, .f32⟩
  | 43 => ⟨S320000x1, .i32⟩
  | 44 => ⟨S256x1, .f32⟩
  | 45 => ⟨S_, .f32⟩
  | 46 => ⟨S256x1, .f32⟩
  | 47 => ⟨S256x1, .f32⟩
  | 48 => ⟨S256x256, .f32⟩
  | 49 => ⟨S256x256, .f32⟩
  | 50 => ⟨S320000x256, .f32⟩
  | 51 => ⟨S_, .f32⟩
  | 52 => ⟨S256x256, .f32⟩
  | 53 => ⟨S320000x1, .i32⟩
  | 54 => ⟨S256x256, .f32⟩
  | 55 => ⟨S_, .f32⟩
  | 56 => ⟨S320000x1, .f32⟩
  | 57 => ⟨S_, .f32⟩
  | 58 => ⟨S256x1, .f32⟩
  | 59 => ⟨S320000x1, .i32⟩
  | 60 => ⟨S256x1, .f32⟩
  | 61 => ⟨S_, .f32⟩
  | 62 => ⟨S256x1, .f32⟩
  | 63 => ⟨S256x1, .f32⟩
  | 64 => ⟨S256x256, .f32⟩
  | 65 => ⟨S256x256, .f32⟩
  | 66 => ⟨S256x256, .f32⟩
  | 67 => ⟨S256x256, .f32⟩
  | 68 => ⟨S_, .i32⟩
  | 69 => ⟨S320000, .i32⟩
  | 70 => ⟨S320000, .i1⟩
  | 71 => ⟨S_, .i32⟩
  | 72 => ⟨S320000, .i32⟩
  | 73 => ⟨S320000, .i32⟩
  | 74 => ⟨S320000, .i32⟩
  | 75 => ⟨S320000x1, .i32⟩
  | 76 => ⟨S320000x256, .f32⟩
  | 77 => ⟨S320000x256, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000x256, .f32⟩
  | 87 => ⟨S_, .f32⟩
  | 88 => ⟨S320000x256, .f32⟩
  | 89 => ⟨S320000x256, .f32⟩
  | 90 => ⟨S320000x256, .f32⟩
  | 91 => ⟨S320000x256, .f32⟩
  | 92 => ⟨S1x256, .f32⟩
  | 93 => ⟨S320000x256, .f32⟩
  | 94 => ⟨S320000x256, .f32⟩
  | 95 => ⟨S1x256, .f32⟩
  | 96 => ⟨S320000x256, .f32⟩
  | 97 => ⟨S320000x256, .f32⟩
  | 98 => ⟨S320000x128, .f32⟩
  | 99 => ⟨S320000x128, .f32⟩
  | 100 => ⟨S_, .f32⟩
  | 101 => ⟨S320000, .f32⟩
  | 102 => ⟨S320000x1, .f32⟩
  | 103 => ⟨S_, .f32⟩
  | 104 => ⟨S320000x1, .f32⟩
  | 105 => ⟨S320000x1, .f32⟩
  | 106 => ⟨S320000x128, .f32⟩
  | 107 => ⟨S320000x128, .f32⟩
  | 108 => ⟨S320000x128, .f32⟩
  | 109 => ⟨S_, .f32⟩
  | 110 => ⟨S320000, .f32⟩
  | 111 => ⟨S320000x1, .f32⟩
  | 112 => ⟨S_, .f32⟩
  | 113 => ⟨S320000x1, .f32⟩
  | 114 => ⟨S320000x1, .f32⟩
  | 115 => ⟨S320000x128, .f32⟩
  | 116 => ⟨S320000x128, .f32⟩
  | 117 => ⟨S_, .f32⟩
  | 118 => ⟨S320000x1, .f32⟩
  | 119 => ⟨S320000x1, .f32⟩
  | 120 => ⟨S320000x1, .f32⟩
  | 121 => ⟨S320000x128, .f32⟩
  | 122 => ⟨S320000x128, .f32⟩
  | 123 => ⟨S1x128, .f32⟩
  | 124 => ⟨S320000x128, .f32⟩
  | 125 => ⟨S320000x128, .f32⟩
  | 126 => ⟨S1x128, .f32⟩
  | 127 => ⟨S320000x128, .f32⟩
  | _ => ⟨S160000x128, .f32⟩

abbrev hbmTy0_1 (i : Nat) : BufTy := match i % 128 with
  | 0 => ⟨S320000x128, .f32⟩
  | 1 => ⟨S320000x128, .f32⟩
  | 2 => ⟨S320000x128, .f32⟩
  | 3 => ⟨S_, .f32⟩
  | 4 => ⟨S320000x128, .f32⟩
  | 5 => ⟨S320000x128, .f32⟩
  | 6 => ⟨S_, .f32⟩
  | 7 => ⟨S320000x128, .f32⟩
  | 8 => ⟨S320000x128, .f32⟩
  | 9 => ⟨S320000x128, .f32⟩
  | 10 => ⟨S320000x1, .f32⟩
  | 11 => ⟨S320000x1, .f32⟩
  | 12 => ⟨S320000x1, .f32⟩
  | 13 => ⟨S_, .f32⟩
  | 14 => ⟨S320000x1, .f32⟩
  | 15 => ⟨S320000x1, .f32⟩
  | 16 => ⟨S_, .f32⟩
  | 17 => ⟨S320000x1, .f32⟩
  | 18 => ⟨S320000x1, .f32⟩
  | 19 => ⟨S320000x128, .f32⟩
  | 20 => ⟨S320000x128, .f32⟩
  | 21 => ⟨S_, .f32⟩
  | 22 => ⟨S160000x128, .f32⟩
  | 23 => ⟨S320000x1, .i32⟩
  | 24 => ⟨S160000x128, .f32⟩
  | 25 => ⟨S_, .f32⟩
  | 26 => ⟨S320000x1, .f32⟩
  | 27 => ⟨S_, .f32⟩
  | 28 => ⟨S160000x1, .f32⟩
  | 29 => ⟨S320000x1, .i32⟩
  | 30 => ⟨S160000x1, .f32⟩
  | 31 => ⟨S_, .f32⟩
  | 32 => ⟨S160000x1, .f32⟩
  | 33 => ⟨S160000x1, .f32⟩
  | 34 => ⟨S160000x128, .f32⟩
  | 35 => ⟨S160000x128, .f32⟩
  | 36 => ⟨S_, .f32⟩
  | 37 => ⟨S160000, .f32⟩
  | 38 => ⟨S160000x1, .f32⟩
  | 39 => ⟨S_, .f32⟩
  | 40 => ⟨S160000x1, .f32⟩
  | 41 => ⟨S160000x1, .f32⟩
  | 42 => ⟨S160000x128, .f32⟩
  | 43 => ⟨S160000x128, .f32⟩
  | 44 => ⟨S160000x128, .f32⟩
  | 45 => ⟨S_, .f32⟩
  | 46 => ⟨S160000, .f32⟩
  | 47 => ⟨S160000x1, .f32⟩
  | 48 => ⟨S_, .f32⟩
  | 49 => ⟨S160000x1, .f32⟩
  | 50 => ⟨S160000x1, .f32⟩
  | 51 => ⟨S160000x128, .f32⟩
  | 52 => ⟨S160000x128, .f32⟩
  | 53 => ⟨S_, .f32⟩
  | 54 => ⟨S160000x1, .f32⟩
  | 55 => ⟨S160000x1, .f32⟩
  | 56 => ⟨S160000x1, .f32⟩
  | 57 => ⟨S160000x128, .f32⟩
  | 58 => ⟨S160000x128, .f32⟩
  | 59 => ⟨S1x128, .f32⟩
  | 60 => ⟨S160000x128, .f32⟩
  | 61 => ⟨S160000x128, .f32⟩
  | 62 => ⟨S1x128, .f32⟩
  | 63 => ⟨S160000x128, .f32⟩
  | 64 => ⟨S160000x128, .f32⟩
  | 65 => ⟨S160000x64, .f32⟩
  | 66 => ⟨S1x64, .f32⟩
  | 67 => ⟨S160000x64, .f32⟩
  | 68 => ⟨S160000x64, .f32⟩
  | 69 => ⟨S160000x64, .f32⟩
  | 70 => ⟨S160000x64, .f32⟩
  | 71 => ⟨S_, .f32⟩
  | 72 => ⟨S160000x64, .f32⟩
  | 73 => ⟨S160000x64, .f32⟩
  | 74 => ⟨S_, .f32⟩
  | 75 => ⟨S160000x64, .f32⟩
  | 76 => ⟨S160000x64, .f32⟩
  | 77 => ⟨S160000x64, .f32⟩
  | 78 => ⟨S160000x128, .f32⟩
  | 79 => ⟨S1x128, .f32⟩
  | 80 => ⟨S160000x128, .f32⟩
  | 81 => ⟨S160000x128, .f32⟩
  | 82 => ⟨S160000x128, .f32⟩
  | 83 => ⟨S160000x128, .f32⟩
  | 84 => ⟨S_, .f32⟩
  | 85 => ⟨S160000x128, .f32⟩
  | 86 => ⟨S160000x128, .f32⟩
  | 87 => ⟨S_, .f32⟩
  | 88 => ⟨S160000x128, .f32⟩
  | 89 => ⟨S160000x128, .f32⟩
  | 90 => ⟨S160000x128, .f32⟩
  | 91 => ⟨S160000x128, .f32⟩
  | 92 => ⟨S160000x64, .f32⟩
  | 93 => ⟨S1x64, .f32⟩
  | 94 => ⟨S160000x64, .f32⟩
  | 95 => ⟨S160000x64, .f32⟩
  | 96 => ⟨S160000x64, .f32⟩
  | 97 => ⟨S160000x64, .f32⟩
  | 98 => ⟨S_, .f32⟩
  | 99 => ⟨S160000x64, .f32⟩
  | 100 => ⟨S160000x64, .f32⟩
  | 101 => ⟨S_, .f32⟩
  | 102 => ⟨S160000x64, .f32⟩
  | 103 => ⟨S160000x64, .f32⟩
  | 104 => ⟨S160000x64, .f32⟩
  | 105 => ⟨S160000x128, .f32⟩
  | 106 => ⟨S1x128, .f32⟩
  | 107 => ⟨S160000x128, .f32⟩
  | 108 => ⟨S160000x128, .f32⟩
  | 109 => ⟨S160000x128, .f32⟩
  | 110 => ⟨S160000x128, .f32⟩
  | 111 => ⟨S_, .f32⟩
  | 112 => ⟨S160000x128, .f32⟩
  | 113 => ⟨S160000x128, .f32⟩
  | 114 => ⟨S_, .f32⟩
  | 115 => ⟨S160000x128, .f32⟩
  | 116 => ⟨S160000x128, .f32⟩
  | 117 => ⟨S160000x128, .f32⟩
  | 118 => ⟨S160000x128, .f32⟩
  | 119 => ⟨S160000x128, .f32⟩
  | 120 => ⟨S_, .f32⟩
  | 121 => ⟨S160000x128, .f32⟩
  | 122 => ⟨S160000x128, .f32⟩
  | _ => ⟨S160000x128, .f32⟩

abbrev hbmTy (i : Nat) : BufTy := match i / 128 with
  | 0 => hbmTy0_0 i
  | 1 => hbmTy0_1 i
  | _ => ⟨S160000x128, .f32⟩

abbrev bufTy : (tb : Table) → Fin (tcTables nBuf tb) → BufTy
  | .hbm, ⟨i, _⟩ => hbmTy i
  | _, _ => ⟨S160000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_c : Ref sig .tc := ⟨.hbm, 23, rfl⟩
abbrev main_v2 : Ref sig .tc := ⟨.hbm, 24, rfl⟩
abbrev main_v3 : Ref sig .tc := ⟨.hbm, 25, rfl⟩
abbrev main_c_0 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_3 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_cst_6 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_7 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_8 : Ref sig .tc := ⟨.hbm, 68, rfl⟩
abbrev main_v37 : Ref sig .tc := ⟨.hbm, 69, rfl⟩
abbrev main_v38 : Ref sig .tc := ⟨.hbm, 70, rfl⟩
abbrev main_c_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_10 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_13 : Ref sig .tc := ⟨.hbm, 100, rfl⟩
abbrev main_v64 : Ref sig .tc := ⟨.hbm, 101, rfl⟩
abbrev main_v65 : Ref sig .tc := ⟨.hbm, 102, rfl⟩
abbrev main_cst_14 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_15 : Ref sig .tc := ⟨.hbm, 109, rfl⟩
abbrev main_v71 : Ref sig .tc := ⟨.hbm, 110, rfl⟩
abbrev main_v72 : Ref sig .tc := ⟨.hbm, 111, rfl⟩
abbrev main_cst_16 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_17 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call0_v0 : Ref sig .tc := ⟨.hbm, 129, rfl⟩
abbrev main_call0_v1 : Ref sig .tc := ⟨.hbm, 130, rfl⟩
abbrev main_call0_cst : Ref sig .tc := ⟨.hbm, 131, rfl⟩
abbrev main_call0_v2 : Ref sig .tc := ⟨.hbm, 132, rfl⟩
abbrev main_call0_v3 : Ref sig .tc := ⟨.hbm, 133, rfl⟩
abbrev main_call0_cst_0 : Ref sig .tc := ⟨.hbm, 134, rfl⟩
abbrev main_call0_v4 : Ref sig .tc := ⟨.hbm, 135, rfl⟩
abbrev main_call0_v5 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_18 : Ref sig .tc := ⟨.hbm, 141, rfl⟩
abbrev main_v92 : Ref sig .tc := ⟨.hbm, 142, rfl⟩
abbrev main_v93 : Ref sig .tc := ⟨.hbm, 143, rfl⟩
abbrev main_cst_19 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_20 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_21 : Ref sig .tc := ⟨.hbm, 153, rfl⟩
abbrev main_v101 : Ref sig .tc := ⟨.hbm, 154, rfl⟩
abbrev main_cst_22 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_23 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_24 : Ref sig .tc := ⟨.hbm, 164, rfl⟩
abbrev main_v109 : Ref sig .tc := ⟨.hbm, 165, rfl⟩
abbrev main_v110 : Ref sig .tc := ⟨.hbm, 166, rfl⟩
abbrev main_cst_25 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_26 : Ref sig .tc := ⟨.hbm, 173, rfl⟩
abbrev main_v116 : Ref sig .tc := ⟨.hbm, 174, rfl⟩
abbrev main_v117 : Ref sig .tc := ⟨.hbm, 175, rfl⟩
abbrev main_cst_27 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_28 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_call1_v0 : Ref sig .tc := ⟨.hbm, 197, rfl⟩
abbrev main_call1_v1 : Ref sig .tc := ⟨.hbm, 198, rfl⟩
abbrev main_call1_cst : Ref sig .tc := ⟨.hbm, 199, rfl⟩
abbrev main_call1_v2 : Ref sig .tc := ⟨.hbm, 200, rfl⟩
abbrev main_call1_v3 : Ref sig .tc := ⟨.hbm, 201, rfl⟩
abbrev main_call1_cst_0 : Ref sig .tc := ⟨.hbm, 202, rfl⟩
abbrev main_call1_v4 : Ref sig .tc := ⟨.hbm, 203, rfl⟩
abbrev main_call1_v5 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_call2_v0 : Ref sig .tc := ⟨.hbm, 210, rfl⟩
abbrev main_call2_v1 : Ref sig .tc := ⟨.hbm, 211, rfl⟩
abbrev main_call2_cst : Ref sig .tc := ⟨.hbm, 212, rfl⟩
abbrev main_call2_v2 : Ref sig .tc := ⟨.hbm, 213, rfl⟩
abbrev main_call2_v3 : Ref sig .tc := ⟨.hbm, 214, rfl⟩
abbrev main_call2_cst_0 : Ref sig .tc := ⟨.hbm, 215, rfl⟩
abbrev main_call2_v4 : Ref sig .tc := ⟨.hbm, 216, rfl⟩
abbrev main_call2_v5 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_call3_v0 : Ref sig .tc := ⟨.hbm, 224, rfl⟩
abbrev main_call3_v1 : Ref sig .tc := ⟨.hbm, 225, rfl⟩
abbrev main_call3_cst : Ref sig .tc := ⟨.hbm, 226, rfl⟩
abbrev main_call3_v2 : Ref sig .tc := ⟨.hbm, 227, rfl⟩
abbrev main_call3_v3 : Ref sig .tc := ⟨.hbm, 228, rfl⟩
abbrev main_call3_cst_0 : Ref sig .tc := ⟨.hbm, 229, rfl⟩
abbrev main_call3_v4 : Ref sig .tc := ⟨.hbm, 230, rfl⟩
abbrev main_call3_v5 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_call4_v0 : Ref sig .tc := ⟨.hbm, 237, rfl⟩
abbrev main_call4_v1 : Ref sig .tc := ⟨.hbm, 238, rfl⟩
abbrev main_call4_cst : Ref sig .tc := ⟨.hbm, 239, rfl⟩
abbrev main_call4_v2 : Ref sig .tc := ⟨.hbm, 240, rfl⟩
abbrev main_call4_v3 : Ref sig .tc := ⟨.hbm, 241, rfl⟩
abbrev main_call4_cst_0 : Ref sig .tc := ⟨.hbm, 242, rfl⟩
abbrev main_call4_v4 : Ref sig .tc := ⟨.hbm, 243, rfl⟩
abbrev main_call4_v5 : Ref sig .tc := ⟨.hbm, 244, rfl⟩
abbrev main_v153 : Ref sig .tc := ⟨.hbm, 245, rfl⟩
abbrev main_v154 : Ref sig .tc := ⟨.hbm, 246, rfl⟩
abbrev main_v155 : Ref sig .tc := ⟨.hbm, 247, rfl⟩
abbrev main_cst_29 : Ref sig .tc := ⟨.hbm, 248, rfl⟩
abbrev main_v156 : Ref sig .tc := ⟨.hbm, 249, rfl⟩
abbrev main_v157 : Ref sig .tc := ⟨.hbm, 250, rfl⟩

abbrev nD : Nat := 1
abbrev τ : Topo := Topo.v7x

variable {F : FTy → Type} [FloatOps F]
-- ==== Proof.Ideal.Call1.lean ====
/- The first launch (the gate inputs, and the per-crystal sums accumulated over the grid): its body on whole staging buffers, its proof data and its obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Value
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the buffers hold when the call is entered
variable (V : (c : Dev nD) → (b : Ref sig .tc) → Buf (Elt F) ((c : Thread nD τ).loc b))

/-! ## The blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, for proof data reading its array off `V` and
    leaving the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1's buffer holds its block when the body starts, for any proof data that leaves it there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2's buffer holds its block when the body starts, for any proof data that leaves it there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Which points are the first and the last -/

/-- The body's test for the grid's first point. -/
abbrev isFirst (i : grid0.Coords) : Prop := (Scalar.cmpi .ne (Scalar.extui (Scalar.cmpi .eq (BitVec.ofNat 32 (i 0).val) 0#32)) 0#32) = 1#1
/-- It holds at point 0 only. -/
theorem isFirst_iff : ∀ t : Fin cfg0.N, isFirst (grid0.coords t) ↔ t.val = 0 :=
  (fun t => by
    have ht : t.val < 50 := Nat.lt_of_lt_of_eq t.isLt N_0
    have e0 : (grid0.coords t 0).val = t.val / 1 % 50 := Pipeline.Grid.coords_val t 0 (by decide) rfl
    simp only [isFirst, e0]
    word_cmp
   : ∀ t : Fin grid0.N, isFirst (grid0.coords t) ↔ t.val = 0)

/-- The body's test for the grid's last point. -/
abbrev isLast (i : grid0.Coords) : Prop := k0_cond2 i = 1#1
/-- It holds at point 49 only. -/
theorem isLast_iff : ∀ t : Fin cfg0.N, isLast (grid0.coords t) ↔ t.val = 49 :=
  (fun t => by
    have ht : t.val < 50 := Nat.lt_of_lt_of_eq t.isLt N_0
    have e0 : (grid0.coords t 0).val = t.val / 1 % 50 := Pipeline.Grid.coords_val t 0 (by decide) rfl
    simp only [isLast, k0_cond2, e0]
    word_cmp
   : ∀ t : Fin grid0.N, isLast (grid0.coords t) ↔ t.val = 49)

/-- The sums' output is idle before the last point. -/
theorem idle4 : ∀ t : Fin cfg0.N, ¬isLast (grid0.coords t) → cfg0.idle 4 (grid0.coords t) = true := by decide +kernel
/-- The squares' output is idle before the last point. -/
theorem idle5 : ∀ t : Fin cfg0.N, ¬isLast (grid0.coords t) → cfg0.idle 5 (grid0.coords t) = true := by decide +kernel
/-- The counts' output is idle before the last point. -/
theorem idle6 : ∀ t : Fin cfg0.N, ¬isLast (grid0.coords t) → cfg0.idle 6 (grid0.coords t) = true := by decide +kernel
/-- The sums' output is not written back before the last point. -/
theorem noFlush4 : ∀ t : Fin cfg0.N, ¬isLast (grid0.coords t) → (cfg0.win 4).flush t = false := by decide +kernel
/-- The squares' output is not written back before the last point. -/
theorem noFlush5 : ∀ t : Fin cfg0.N, ¬isLast (grid0.coords t) → (cfg0.win 5).flush t = false := by decide +kernel
/-- The counts' output is not written back before the last point. -/
theorem noFlush6 : ∀ t : Fin cfg0.N, ¬isLast (grid0.coords t) → (cfg0.win 6).flush t = false := by decide +kernel
/-- The sums' output is live at the last point. -/
theorem live4 : ∀ t : Fin cfg0.N, isLast (grid0.coords t) → cfg0.idle 4 (grid0.coords t) = false := by decide +kernel
/-- The squares' output is live at the last point. -/
theorem live5 : ∀ t : Fin cfg0.N, isLast (grid0.coords t) → cfg0.idle 5 (grid0.coords t) = false := by decide +kernel
/-- The counts' output is live at the last point. -/
theorem live6 : ∀ t : Fin cfg0.N, isLast (grid0.coords t) → cfg0.idle 6 (grid0.coords t) = false := by decide +kernel

/-! ## What one point leaves -/

/-- The offset of a whole two-axis buffer is zero on both axes. -/
theorem zero2 : (![0, 0] : Fin 2 → Nat) = fun _ => 0 := by funext i; fin_cases i <;> rfl

/-- The accumulators a point leaves, from the point's blocks and what the accumulators held: the per-crystal sums, the
    sums of squares and the counts. -/
abbrev stepS (x0 : Vec F S6400x272 .f32) (x1 : Vec F S6400x1 .i32) (x2 : Vec F S272x256 .f32) (s : Vec F S256x256 .f32) : Vec F S256x256 .f32 := k0_pay7 x0 x2 x1 s
/-- The sums of squares a point leaves. -/
abbrev stepQ (x0 : Vec F S6400x272 .f32) (x1 : Vec F S6400x1 .i32) (x2 : Vec F S272x256 .f32) (q : Vec F S256x256 .f32) : Vec F S256x256 .f32 := k0_pay8 x0 x2 x1 q
/-- The counts a point leaves. -/
abbrev stepC (x1 : Vec F S6400x1 .i32) (n : Vec F S1x256 .f32) : Vec F S1x256 .f32 := k0_pay1 (k0_pay3 x1) n

/-- A buffer whose last store is of the whole of it reads that store, whatever was stored before. -/
theorem read_whole {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, by
    subst h; show y ∈ (Rect.whole S).set; rw [Rect.set_whole]; exact Finset.mem_univ y⟩]
  exact View.canon_cons_unit_zero h inb w L

/-! ## The body's triple, at the first point, between, and at the last -/

set_option maxHeartbeats 1200000 in
/-- At the first point the accumulators are zeroed and this point's sums added; the three accumulated outputs are left alone. -/
theorem body_first (c : Dev nD) (E : Set ℕ) (i : grid0.Coords) (arg1 : Memref sig .tc .vmem S6400x272 .f32) (harg1 : arg1.IsWhole) (arg2 : Memref sig .tc .vmem S6400x1 .i32) (harg2 : arg2.IsWhole) (arg3 : Memref sig .tc .vmem S272x256 .f32) (harg3 : arg3.IsWhole) (arg4 : Memref sig .tc .vmem S6400x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S1x256 .f32) (harg10 : arg10.IsWhole) (hc0 : isFirst i) (hc1 : ¬isLast i)
    (x0 : Vec F S6400x272 .f32) (x1 : Vec F S6400x1 .i32) (x2 : Vec F S272x256 .f32) (d4 : Vec F S256x256 .f32) (d5 : Vec F S256x256 .f32) (d6 : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ owns (c : Thread nD τ) arg7 fullShare d6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x2) ∗ owns (c : Thread nD τ) arg5 fullShare d4 ∗ owns (c : Thread nD τ) arg6 fullShare d5 ∗ owns (c : Thread nD τ) arg7 fullShare d6 ∗ owns (c : Thread nD τ) arg8 fullShare (stepS x0 x1 x2 k0_pay4) ∗ owns (c : Thread nD τ) arg9 fullShare (stepQ x0 x1 x2 k0_pay5) ∗ owns (c : Thread nD τ) arg10 fullShare (stepC x1 k0_pay6)) -∗ K ⟨⟩))
      ⊢ wp frame (wpE (defs₀ (F := F)) Variants.none c none) E (cc0__k1 i arg1 harg1 arg2 harg2 arg3 harg3 arg4 harg4 arg5 harg5 arg6 harg6 arg7 harg7 arg8 harg8 arg9 harg9 arg10 harg10) K := by
  simp only [cc0__k1_eq_skeleton]; unfold cc0__k1_skel
  simp only [k0_part1_eq_skeleton]
  unfold owns
  iintro ⟨⟨%f0, %hf0, H0⟩, ⟨%f1, %hf1, H1⟩, ⟨%f2, %hf2, H2⟩, ⟨%d3', %f3, -, H3⟩, ⟨%f4, %hf4, H4⟩, ⟨%f5, %hf5, H5⟩, ⟨%f6, %hf6, H6⟩, ⟨%d7', %f7, -, H7⟩, ⟨%d8', %f8, -, H8⟩, ⟨%d9', %f9, -, H9⟩, Hk⟩
  obtain rfl := harg1.eq_unread hf0; obtain rfl := harg2.eq_unread hf1; obtain rfl := harg3.eq_unread hf2; obtain rfl := harg5.eq_unread hf4; obtain rfl := harg6.eq_unread hf5; obtain rfl := harg7.eq_unread hf6
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H8]
  · iexists _; isplitr
    swap; · iexact H8
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  iexists _; isplitr
  swap; · iexact H9
  ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]

set_option maxHeartbeats 1200000 in
/-- Between, this point's sums are added to what the accumulators held; the three accumulated outputs are left alone. -/
theorem body_mid (c : Dev nD) (E : Set ℕ) (i : grid0.Coords) (arg1 : Memref sig .tc .vmem S6400x272 .f32) (harg1 : arg1.IsWhole) (arg2 : Memref sig .tc .vmem S6400x1 .i32) (harg2 : arg2.IsWhole) (arg3 : Memref sig .tc .vmem S272x256 .f32) (harg3 : arg3.IsWhole) (arg4 : Memref sig .tc .vmem S6400x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S1x256 .f32) (harg10 : arg10.IsWhole) (hc0 : ¬isFirst i) (hc1 : ¬isLast i)
    (x0 : Vec F S6400x272 .f32) (x1 : Vec F S6400x1 .i32) (x2 : Vec F S272x256 .f32) (d4 : Vec F S256x256 .f32) (d5 : Vec F S256x256 .f32) (d6 : Vec F S1x256 .f32) (s : Vec F S256x256 .f32) (q : Vec F S256x256 .f32) (n : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ owns (c : Thread nD τ) arg7 fullShare d6 ∗ owns (c : Thread nD τ) arg8 fullShare s ∗ owns (c : Thread nD τ) arg9 fullShare q ∗ owns (c : Thread nD τ) arg10 fullShare n
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x2) ∗ owns (c : Thread nD τ) arg5 fullShare d4 ∗ owns (c : Thread nD τ) arg6 fullShare d5 ∗ owns (c : Thread nD τ) arg7 fullShare d6 ∗ owns (c : Thread nD τ) arg8 fullShare (stepS x0 x1 x2 s) ∗ owns (c : Thread nD τ) arg9 fullShare (stepQ x0 x1 x2 q) ∗ owns (c : Thread nD τ) arg10 fullShare (stepC x1 n)) -∗ K ⟨⟩))
      ⊢ wp frame (wpE (defs₀ (F := F)) Variants.none c none) E (cc0__k1 i arg1 harg1 arg2 harg2 arg3 harg3 arg4 harg4 arg5 harg5 arg6 harg6 arg7 harg7 arg8 harg8 arg9 harg9 arg10 harg10) K := by
  simp only [cc0__k1_eq_skeleton]; unfold cc0__k1_skel
  simp only [k0_part1_eq_skeleton]
  unfold owns
  iintro ⟨⟨%f0, %hf0, H0⟩, ⟨%f1, %hf1, H1⟩, ⟨%f2, %hf2, H2⟩, ⟨%d3', %f3, -, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H8]
  · iexists _; isplitr
    swap; · iexact H8
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  iexists _; isplitr
  swap; · iexact H9
  ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]

set_option maxHeartbeats 1200000 in
/-- At the last point this point's sums are added and the accumulators are copied into the three accumulated outputs. -/
theorem body_last (c : Dev nD) (E : Set ℕ) (i : grid0.Coords) (arg1 : Memref sig .tc .vmem S6400x272 .f32) (harg1 : arg1.IsWhole) (arg2 : Memref sig .tc .vmem S6400x1 .i32) (harg2 : arg2.IsWhole) (arg3 : Memref sig .tc .vmem S272x256 .f32) (harg3 : arg3.IsWhole) (arg4 : Memref sig .tc .vmem S6400x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S1x256 .f32) (harg10 : arg10.IsWhole) (hc0 : ¬isFirst i) (hc1 : isLast i)
    (x0 : Vec F S6400x272 .f32) (x1 : Vec F S6400x1 .i32) (x2 : Vec F S272x256 .f32) (s : Vec F S256x256 .f32) (q : Vec F S256x256 .f32) (n : Vec F S1x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare s ∗ owns (c : Thread nD τ) arg9 fullShare q ∗ owns (c : Thread nD τ) arg10 fullShare n
        ∗ (iprop(owns (c : Thread nD τ) arg1 fullShare x0 ∗ owns (c : Thread nD τ) arg2 fullShare x1 ∗ owns (c : Thread nD τ) arg3 fullShare x2 ∗ owns (c : Thread nD τ) arg4 fullShare (k0_pay2 x0 x2) ∗ owns (c : Thread nD τ) arg5 fullShare (stepS x0 x1 x2 s) ∗ owns (c : Thread nD τ) arg6 fullShare (stepQ x0 x1 x2 q) ∗ owns (c : Thread nD τ) arg7 fullShare (stepC x1 n) ∗ owns (c : Thread nD τ) arg8 fullShare (stepS x0 x1 x2 s) ∗ owns (c : Thread nD τ) arg9 fullShare (stepQ x0 x1 x2 q) ∗ owns (c : Thread nD τ) arg10 fullShare (stepC x1 n)) -∗ K ⟨⟩))
      ⊢ wp frame (wpE (defs₀ (F := F)) Variants.none c none) E (cc0__k1 i arg1 harg1 arg2 harg2 arg3 harg3 arg4 harg4 arg5 harg5 arg6 harg6 arg7 harg7 arg8 harg8 arg9 harg9 arg10 harg10) K := by
  simp only [cc0__k1_eq_skeleton]; unfold cc0__k1_skel
  simp only [k0_part1_eq_skeleton]
  unfold owns
  iintro ⟨⟨%f0, %hf0, H0⟩, ⟨%f1, %hf1, H1⟩, ⟨%f2, %hf2, H2⟩, ⟨%d3', %f3, -, H3⟩, ⟨%d4', %f4, -, H4⟩, ⟨%d5', %f5, -, H5⟩, ⟨%d6', %f6, -, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro; rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H4]
  · iexists _; isplitr
    swap; · iexact H4
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H5]
  · iexists _; isplitr
    swap; · iexact H5
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H6]
  · iexists _; isplitr
    swap; · iexact H6
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H7]
  · iexists _; isplitr
    swap; · iexact H7
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  isplitl [H8]
  · iexists _; isplitr
    swap; · iexact H8
    ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]
  iexists _; isplitr
  swap; · iexact H9
  ipureintro; (try sl_unfold_run_names); rw [read_whole _ _ zero2]; simp only [View.readAt_eq_ld, Memref.IsWhole.read_unread, View.ld_unit_zero (S := S6400x272) zero2, View.ld_unit_zero (S := S6400x1) zero2, View.ld_unit_zero (S := S272x256) zero2, View.ld_unit_zero (S := S256x256) zero2, View.ld_unit_zero (S := S1x256) zero2, View.readCov_unit_zero (S := S256x256) _ zero2, View.readCov_unit_zero (S := S1x256) _ zero2]

/-! ## What the accumulators hold after each point -/

/-- The accumulators after point `n`: at the first point from zero, afterwards from what the point before left. -/
def accAt (c : Dev nD) : (n : ℕ) → n < cfg0.N → Vec F S256x256 .f32 × Vec F S256x256 .f32 × Vec F S1x256 .f32
  | 0, h => (stepS (iblk0 V c 0 ⟨0, h⟩) (iblk0 V c 1 ⟨0, h⟩) (iblk0 V c 2 ⟨0, h⟩) k0_pay4,
      stepQ (iblk0 V c 0 ⟨0, h⟩) (iblk0 V c 1 ⟨0, h⟩) (iblk0 V c 2 ⟨0, h⟩) k0_pay5,
      stepC (iblk0 V c 1 ⟨0, h⟩) k0_pay6)
  | n + 1, h =>
    (stepS (iblk0 V c 0 ⟨n + 1, h⟩) (iblk0 V c 1 ⟨n + 1, h⟩) (iblk0 V c 2 ⟨n + 1, h⟩) (accAt c n (Nat.lt_of_succ_lt h)).1,
      stepQ (iblk0 V c 0 ⟨n + 1, h⟩) (iblk0 V c 1 ⟨n + 1, h⟩) (iblk0 V c 2 ⟨n + 1, h⟩) (accAt c n (Nat.lt_of_succ_lt h)).2.1,
      stepC (iblk0 V c 1 ⟨n + 1, h⟩) (accAt c n (Nat.lt_of_succ_lt h)).2.2)

/-- At the first point the accumulators start from zero. -/
theorem accAt_first (c : Dev nD) (t : Fin cfg0.N) (h0 : t.val = 0) :
    accAt V c t.val t.isLt = (stepS (iblk0 V c 0 t) (iblk0 V c 1 t) (iblk0 V c 2 t) k0_pay4,
      stepQ (iblk0 V c 0 t) (iblk0 V c 1 t) (iblk0 V c 2 t) k0_pay5, stepC (iblk0 V c 1 t) k0_pay6) := by
  obtain ⟨n, hn⟩ := t
  cases n with
  | zero => rfl
  | succ n => exact absurd h0 (Nat.succ_ne_zero n)

/-- At any later point they start from what the point before left. -/
theorem accAt_next (c : Dev nD) (t : Fin cfg0.N) (h0 : t.val ≠ 0) (h : t.val - 1 < cfg0.N) :
    accAt V c t.val t.isLt = (stepS (iblk0 V c 0 t) (iblk0 V c 1 t) (iblk0 V c 2 t) (accAt V c (t.val - 1) h).1,
      stepQ (iblk0 V c 0 t) (iblk0 V c 1 t) (iblk0 V c 2 t) (accAt V c (t.val - 1) h).2.1,
      stepC (iblk0 V c 1 t) (accAt V c (t.val - 1) h).2.2) := by
  obtain ⟨n, hn⟩ := t
  cases n with
  | zero => exact absurd rfl h0
  | succ n => rfl

/-! ## The invariant: the accumulators carried from point to point -/

/-- The accumulators' buffers, each whole. -/
abbrev accS : Memref sig .tc .vmem S256x256 .f32 := Memref.whole cc0_scratch0
/-- The squares' accumulator. -/
abbrev accQ : Memref sig .tc .vmem S256x256 .f32 := Memref.whole cc0_scratch1
/-- The counts' accumulator. -/
abbrev accC : Memref sig .tc .vmem S1x256 .f32 := Memref.whole cc0_scratch2

/-- What the call is handed, as a chain: its accumulators each at some contents, the other scoped buffers unopened, and the
    generator register at some state. -/
theorem PhiA0_eq (c : Dev nD) :
    (Pipeline.ΦA spec0 c : sProp 𝕄)
      = iprop(iprop((∃ d, owns (c : Thread nD τ) accS fullShare d) ∗ (∃ d, owns (c : Thread nD τ) accQ fullShare d) ∗ (∃ d, owns (c : Thread nD τ) accC fullShare d) ∗ Pipeline.scopedRestBut spec0 c [cc0_scratch0, cc0_scratch1, cc0_scratch2]) ∗ (∃ r, prngReg c r)) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  unfold Pipeline.ΦA
  refine congrArg (fun X : sProp 𝕄 => iprop(X ∗ (∃ r, prngReg c r))) ?_
  rw [scopedRest0_split, assoc, assoc]; simp only [accS, accQ, accC, owns_whole]; try rfl

/-- The invariant before position `n`: at the start what the call is handed; afterwards the accumulators at what the point
    before left in them. -/
def Phi0 (c : Dev nD) : (n : ℕ) → n ≤ cfg0.N → sProp 𝕄
  | 0, _ => Pipeline.ΦA spec0 c
  | n + 1, hn => iprop(iprop(owns (c : Thread nD τ) accS fullShare (accAt V c n hn).1 ∗ owns (c : Thread nD τ) accQ fullShare (accAt V c n hn).2.1 ∗ owns (c : Thread nD τ) accC fullShare (accAt V c n hn).2.2 ∗ Pipeline.scopedRestBut spec0 c [cc0_scratch0, cc0_scratch1, cc0_scratch2]) ∗ (∃ r, prngReg c r))

/-- Before the first point the invariant is what the call is handed. -/
theorem Phi0_zero (c : Dev nD) (n : ℕ) (h : n ≤ cfg0.N) (hz : n = 0) : Phi0 V c n h = Pipeline.ΦA spec0 c := by
  subst hz; rfl
/-- After a point it holds the accumulators at what that point left. -/
theorem Phi0_succ (c : Dev nD) (n : ℕ) (hn : n < cfg0.N) :
    Phi0 V c (n + 1) hn = iprop(iprop(owns (c : Thread nD τ) accS fullShare (accAt V c n hn).1 ∗ owns (c : Thread nD τ) accQ fullShare (accAt V c n hn).2.1 ∗ owns (c : Thread nD τ) accC fullShare (accAt V c n hn).2.2 ∗ Pipeline.scopedRestBut spec0 c [cc0_scratch0, cc0_scratch1, cc0_scratch2]) ∗ (∃ r, prngReg c r)) := rfl
/-- Before any later point it holds them at what the point before left. -/
theorem Phi0_pos (c : Dev nD) (n : ℕ) (h : n ≤ cfg0.N) (hz : n ≠ 0) (h' : n - 1 < cfg0.N) :
    Phi0 V c n h = iprop(iprop(owns (c : Thread nD τ) accS fullShare (accAt V c (n - 1) h').1 ∗ owns (c : Thread nD τ) accQ fullShare (accAt V c (n - 1) h').2.1 ∗ owns (c : Thread nD τ) accC fullShare (accAt V c (n - 1) h').2.2 ∗ Pipeline.scopedRestBut spec0 c [cc0_scratch0, cc0_scratch1, cc0_scratch2]) ∗ (∃ r, prngReg c r)) := by
  cases n with
  | zero => exact absurd rfl hz
  | succ n => rfl

/-! ## The pipeline's proof data -/

/-- The proof data on core `c`: the arrays as the call finds them; after the body at point `t` each input's buffer at its
    block, the gate inputs' at the point's product, the three accumulated outputs' at the accumulators. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay2 (iblk0 V c 0 t) (iblk0 V c 2 t)
    | ⟨4, _⟩ => (accAt V c t.val t.isLt).1
    | ⟨5, _⟩ => (accAt V c t.val t.isLt).2.1
    | ⟨6, _⟩ => (accAt V c t.val t.isLt).2.2
  Φ t := Phi0 V c t.val (Nat.le_of_lt_succ t.isLt)
  q _ := fullShare
  owed _ := 0

/-- The proof data starts from the arrays as the call finds them. -/
theorem A_eq0 (c : Dev nD) (w : Fin cfg0.W) : (dat0 V c).A w = V c (Pipeline.arrRef spec0 w) := by
  dsimp only [dat0]
/-- The proof data carries this invariant. -/
theorem Phi0_castSucc (c : Dev nD) (t : Fin cfg0.N) :
    (dat0 V c).Φ t.castSucc = Phi0 V c t.val (Nat.le_of_lt t.isLt) := by
  dsimp only [dat0]; exact Pipeline.Dat.Φ_castSucc (Phi0 V c) t

/-- What window 0's buffer holds after the body at a point. -/
theorem after0_0 (c : Dev nD) (t : Fin cfg0.N) : (dat0 V c).after 0 t = iblk0 V c 0 t := by dsimp only [dat0]
/-- What window 1's buffer holds after the body at a point. -/
theorem after0_1 (c : Dev nD) (t : Fin cfg0.N) : (dat0 V c).after 1 t = iblk0 V c 1 t := by dsimp only [dat0]
/-- What window 2's buffer holds after the body at a point. -/
theorem after0_2 (c : Dev nD) (t : Fin cfg0.N) : (dat0 V c).after 2 t = iblk0 V c 2 t := by dsimp only [dat0]
/-- What window 3's buffer holds after the body at a point. -/
theorem after0_3 (c : Dev nD) (t : Fin cfg0.N) : (dat0 V c).after 3 t = k0_pay2 (iblk0 V c 0 t) (iblk0 V c 2 t) := by dsimp only [dat0]
/-- What window 4's buffer holds after the body at a point. -/
theorem after0_4 (c : Dev nD) (t : Fin cfg0.N) : (dat0 V c).after 4 t = (accAt V c t.val t.isLt).1 := by dsimp only [dat0]
/-- What window 5's buffer holds after the body at a point. -/
theorem after0_5 (c : Dev nD) (t : Fin cfg0.N) : (dat0 V c).after 5 t = (accAt V c t.val t.isLt).2.1 := by dsimp only [dat0]
/-- What window 6's buffer holds after the body at a point. -/
theorem after0_6 (c : Dev nD) (t : Fin cfg0.N) : (dat0 V c).after 6 t = (accAt V c t.val t.isLt).2.2 := by dsimp only [dat0]

/-- Window 0's buffer holds its block when the body starts. -/
theorem before0_0 (c : Dev nD) (t : Fin cfg0.N) (d) : (dat0 V c).before 0 t d = iblk0 V c 0 t :=
  before0_0_of V (dat0 V c) (A_eq0 V c 0) (after0_0 V c) t d
/-- Window 1's buffer holds its block when the body starts. -/
theorem before0_1 (c : Dev nD) (t : Fin cfg0.N) (d) : (dat0 V c).before 1 t d = iblk0 V c 1 t :=
  before0_1_of V (dat0 V c) (A_eq0 V c 1) (after0_1 V c) t d
/-- Window 2's buffer holds its block when the body starts. -/
theorem before0_2 (c : Dev nD) (t : Fin cfg0.N) (d) : (dat0 V c).before 2 t d = iblk0 V c 2 t :=
  before0_2_of V (dat0 V c) (A_eq0 V c 2) (after0_2 V c) t d

/-! ## The body obligation -/

/-- A window's staging buffer at a point. -/
abbrev ms0_0 (t : Fin cfg0.N) : Memref sig .tc .vmem S6400x272 .f32 := win0_0.stage (cfg0.slots t 0)
/-- Window 1's staging buffer at a point. -/
abbrev ms0_1 (t : Fin cfg0.N) : Memref sig .tc .vmem S6400x1 .i32 := win0_1.stage (cfg0.slots t 1)
/-- Window 2's staging buffer at a point. -/
abbrev ms0_2 (t : Fin cfg0.N) : Memref sig .tc .vmem S272x256 .f32 := win0_2.stage (cfg0.slots t 2)
/-- Window 3's staging buffer at a point. -/
abbrev ms0_3 (t : Fin cfg0.N) : Memref sig .tc .vmem S6400x256 .f32 := win0_3.stage (cfg0.slots t 3)
/-- Window 4's staging buffer at a point. -/
abbrev ms0_4 (t : Fin cfg0.N) : Memref sig .tc .vmem S256x256 .f32 := win0_4.stage (cfg0.slots t 4)
/-- Window 5's staging buffer at a point. -/
abbrev ms0_5 (t : Fin cfg0.N) : Memref sig .tc .vmem S256x256 .f32 := win0_5.stage (cfg0.slots t 5)
/-- Window 6's staging buffer at a point. -/
abbrev ms0_6 (t : Fin cfg0.N) : Memref sig .tc .vmem S1x256 .f32 := win0_6.stage (cfg0.slots t 6)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

/-- Where a window is live the body leaves it at the proof data's contents. -/
theorem leaves_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 1600000 in
/-- The body at any point: by which of the three cases the point is. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = Phi0 V c (t.val + 1) t.isLt from rfl, Phi0_succ, Phi0_castSucc,
    leaves_live V c 0 t rfl, leaves_live V c 1 t rfl, leaves_live V c 2 t rfl, leaves_live V c 3 t rfl,
    after0_0, after0_1, after0_2, after0_3]
  by_cases h1 : isLast (grid0.coords t)
  · have hv := (isLast_iff t).mp h1
    have hz : t.val ≠ 0 := by omega
    have hp : t.val - 1 < cfg0.N := Nat.lt_of_le_of_lt (Nat.sub_le _ _) t.isLt
    rw [leaves_live V c 4 t (live4 t h1), leaves_live V c 5 t (live5 t h1), leaves_live V c 6 t (live6 t h1),
      after0_4, after0_5, after0_6, Phi0_pos V c _ _ hz hp, accAt_next V c t hz hp]
    dsimp only
    iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
    iapply (body_last c Set.univ (grid0.coords t) _ _ _ _ _ _ _ _ _ _ _ _ _ _ _ _ _ _ _ _ (fun h => hz ((isFirst_iff t).mp h)) h1 (iblk0 V c 0 t) (iblk0 V c 1 t) (iblk0 V c 2 t) (accAt V c (t.val - 1) hp).1 (accAt V c (t.val - 1) hp).2.1 (accAt V c (t.val - 1) hp).2.2 _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hr Hg]
    · isplitl [HS0 HS1 HS2 Hr]
      · isplitl [HS0]; · iexact HS0
        isplitl [HS1]; · iexact HS1
        isplitl [HS2]; · iexact HS2
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat0 V c) 4 t (idle4 t h1) (noFlush4 t h1), Dat.leavesExact_idle (dat0 V c) 5 t (idle5 t h1) (noFlush5 t h1),
      Dat.leavesExact_idle (dat0 V c) 6 t (idle6 t h1) (noFlush6 t h1)]
    by_cases hz : t.val = 0
    · rw [Phi0_zero V c _ _ hz, PhiA0_eq, accAt_first V c t hz]
      dsimp only
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (body_first c Set.univ (grid0.coords t) _ _ _ _ _ _ _ _ _ _ _ _ _ _ _ _ _ _ _ _ ((isFirst_iff t).mpr hz) h1 (iblk0 V c 0 t) (iblk0 V c 1 t) (iblk0 V c 2 t) _ _ _ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitl [HS0 HS1 HS2 Hr]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6
    · have hp : t.val - 1 < cfg0.N := Nat.lt_of_le_of_lt (Nat.sub_le _ _) t.isLt
      rw [Phi0_pos V c _ _ hz hp, accAt_next V c t hz hp]
      dsimp only
      iintro ⟨⟨⟨HS0, HS1, HS2, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (body_mid c Set.univ (grid0.coords t) _ _ _ _ _ _ _ _ _ _ _ _ _ _ _ _ _ _ _ _ (fun h => hz ((isFirst_iff t).mp h)) h1 (iblk0 V c 0 t) (iblk0 V c 1 t) (iblk0 V c 2 t) _ _ _ (accAt V c (t.val - 1) hp).1 (accAt V c (t.val - 1) hp).2.1 (accAt V c (t.val - 1) hp).2.2 _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hr Hg]
      · isplitl [HS0 HS1 HS2 Hr]
        · isplitl [HS0]; · iexact HS0
          isplitl [HS1]; · iexact HS1
          isplitl [HS2]; · iexact HS2
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the call is handed is the invariant before the first point, -/
theorem Phi0_in (c : Dev nD) : (dat0 V c).Φ 0 = Pipeline.ΦA spec0 c := by
  rw [show (dat0 V c).Φ 0 = Phi0 V c 0 (Nat.zero_le _) from rfl, Phi0_zero V c 0 _ rfl]

/-- and after the last point the invariant gives it back, the accumulators' contents forgotten. -/
theorem Phi0_out (c : Dev nD) : (dat0 V c).Φ (Fin.last cfg0.N) ⊢ Pipeline.ΦA spec0 c := by
  have hN : cfg0.N = 50 := N_0
  rw [show (dat0 V c).Φ (Fin.last cfg0.N) = Phi0 V c cfg0.N le_rfl from rfl,
    Phi0_pos V c cfg0.N le_rfl (by omega) (by omega), PhiA0_eq]
  iintro ⟨⟨HS0, HS1, HS2, Hr⟩, Hg⟩
  isplitl [HS0 HS1 HS2 Hr]
  · isplitl [HS0]
    · iexists _; iexact HS0
    isplitl [HS1]
    · iexists _; iexact HS1
    isplitl [HS2]
    · iexists _; iexact HS2
    iexact Hr
  iexact Hg

end Cert.KernelIdeal.Calls

end
-- ==== Proof.Ideal.Call2.lean ====
/- The second launch (the per-crystal normalisation and the gate): its body on whole staging buffers, its proof data and its obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the buffers hold when the call is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- A whole buffer of this shape, as a rectangle. -/
abbrev r1_0 : Rect S1x256 := Rect.unit (s := S1x256) ![0, 0] S1x256.size inb_S1x256_S1x256_0_0
/-- A whole buffer of this shape, as a rectangle. -/
abbrev r1_1 : Rect S256x256 := Rect.unit (s := S256x256) ![0, 0] S256x256.size inb_S256x256_S256x256_0_0
/-- A whole buffer of this shape, as a rectangle. -/
abbrev r1_2 : Rect S6400x1 := Rect.unit (s := S6400x1) ![0, 0] S6400x1.size inb_S6400x1_S6400x1_0_0
/-- A whole buffer of this shape, as a rectangle. -/
abbrev r1_3 : Rect S6400x256 := Rect.unit (s := S6400x256) ![0, 0] S6400x256.size inb_S6400x256_S6400x256_0_0
/-- A whole buffer of this shape, as a rectangle. -/
abbrev r1_4 : Rect S1x128 := Rect.unit (s := S1x128) ![0, 0] S1x128.size inb_S1x128_S1x128_0_0
/-- A whole buffer of this shape, as a rectangle. -/
abbrev r1_5 : Rect S128x1 := Rect.unit (s := S128x1) ![0, 0] S128x1.size inb_S128x1_S128x1_0_0
/-- A whole buffer of this shape, as a rectangle. -/
abbrev r1_6 : Rect S6400x128 := Rect.unit (s := S6400x128) ![0, 0] S6400x128.size inb_S6400x128_S6400x128_0_0

/-! ## What the body leaves in each output window's buffer -/

/-- Window 10's staging buffer after the body, from the input windows' blocks: its 1 store as pieces, LAST
    FIRST (Lib/Pipeline/FrameBody.lean `View.canon`; the payloads are the skeleton's). -/
def out1_10 (x0 : Vec F S6400x256 .f32) (x1 : Vec F S6400x1 .i32) (x2 : Vec F S256x256 .f32) (x3 : Vec F S256x256 .f32) (x4 : Vec F S1x256 .f32) (x5 : Vec F S1x256 .f32) (x6 : Vec F S1x256 .f32) (x7 : Vec F S128x1 .f32) (x8 : Vec F S1x128 .f32) (x9 : Vec F S1x128 .f32) : Vec F S6400x128 .f32 :=
  View.canon [⟨r1_6, k1_pay1 (k1_pay2 (View.ld x4 r1_0) (View.ld x2 r1_1) (View.ld x3 r1_1) (View.ld x1 r1_2) (View.ld x0 r1_3) (View.ld x5 r1_0) (View.ld x6 r1_0)) (k1_pay3 (View.ld x4 r1_0) (View.ld x2 r1_1) (View.ld x3 r1_1) (View.ld x1 r1_2) (View.ld x0 r1_3) (View.ld x5 r1_0) (View.ld x6 r1_0)) (View.ld x8 r1_4) (View.ld x9 r1_4) (View.ld x7 r1_5)⟩]

/-- Its stores tile the buffer (checked by evaluation), so they cover it. -/
theorem cover1_10 (p0 : Vec F S6400x128 .f32) (y : S6400x128.Idx) :
    ∃ pc ∈ ([⟨r1_6, p0⟩] : List (View.Piece (Elt F) S6400x128 .f32)), y ∈ pc.1.set :=
  View.cover_of_tiled [⟨r1_6, p0⟩] S6400x128.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S6400x256 .f32) (harg1 : arg1.IsWhole) (arg2 : Memref sig .tc .vmem S6400x1 .i32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S128x1 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S6400x128 .f32) (harg11 : arg11.IsWhole)
    (x0 : Vec F S6400x256 .f32) (x1 : Vec F S6400x1 .i32) (x2 : Vec F S256x256 .f32) (x3 : Vec F S256x256 .f32) (x4 : Vec F S1x256 .f32) (x5 : Vec F S1x256 .f32) (x6 : Vec F S1x256 .f32) (x7 : Vec F S128x1 .f32) (x8 : Vec F S1x128 .f32) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out1_10 x0 x1 x2 x3 x4 x5 x6 x7 x8 x9)) -∗ K ⟨⟩))
      ⊢ wp frame (wpE (defs₀ (F := F)) Variants.none c none) E (cc1__k2 i arg1 harg1 arg2 harg2 arg3 harg3 arg4 harg4 arg5 harg5 arg6 harg6 arg7 harg7 arg8 harg8 arg9 harg9 arg10 harg10 arg11 harg11) K := by
  simp only [cc1__k2_eq_skeleton]; unfold cc1__k2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1_10 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
/-- What window 1's buffer holds after the body at a point. -/
theorem after1_1 (c : Dev nD) (t : Fin cfg1.N) : (dat1 V c).after 1 t = iblk1 V c 1 t := by dsimp only [dat1]
/-- What window 2's buffer holds after the body at a point. -/
theorem after1_2 (c : Dev nD) (t : Fin cfg1.N) : (dat1 V c).after 2 t = iblk1 V c 2 t := by dsimp only [dat1]
/-- What window 3's buffer holds after the body at a point. -/
theorem after1_3 (c : Dev nD) (t : Fin cfg1.N) : (dat1 V c).after 3 t = iblk1 V c 3 t := by dsimp only [dat1]
/-- What window 4's buffer holds after the body at a point. -/
theorem after1_4 (c : Dev nD) (t : Fin cfg1.N) : (dat1 V c).after 4 t = iblk1 V c 4 t := by dsimp only [dat1]
/-- What window 5's buffer holds after the body at a point. -/
theorem after1_5 (c : Dev nD) (t : Fin cfg1.N) : (dat1 V c).after 5 t = iblk1 V c 5 t := by dsimp only [dat1]
/-- What window 6's buffer holds after the body at a point. -/
theorem after1_6 (c : Dev nD) (t : Fin cfg1.N) : (dat1 V c).after 6 t = iblk1 V c 6 t := by dsimp only [dat1]
/-- What window 7's buffer holds after the body at a point. -/
theorem after1_7 (c : Dev nD) (t : Fin cfg1.N) : (dat1 V c).after 7 t = iblk1 V c 7 t := by dsimp only [dat1]
/-- What window 8's buffer holds after the body at a point. -/
theorem after1_8 (c : Dev nD) (t : Fin cfg1.N) : (dat1 V c).after 8 t = iblk1 V c 8 t := by dsimp only [dat1]
/-- What window 9's buffer holds after the body at a point. -/
theorem after1_9 (c : Dev nD) (t : Fin cfg1.N) : (dat1 V c).after 9 t = iblk1 V c 9 t := by dsimp only [dat1]
/-- What window 10's buffer holds after the body at a point. -/
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- Window 1's buffer holds its block when the body starts. -/
theorem before1_1 (c : Dev nD) (t : Fin cfg1.N) (d) : (dat1 V c).before 1 t d = iblk1 V c 1 t :=
  before1_1_of V (dat1 V c) (A_eq1 V c 1) (after1_1 V c) t d
/-- Window 2's buffer holds its block when the body starts. -/
theorem before1_2 (c : Dev nD) (t : Fin cfg1.N) (d) : (dat1 V c).before 2 t d = iblk1 V c 2 t :=
  before1_2_of V (dat1 V c) (A_eq1 V c 2) (after1_2 V c) t d
/-- Window 3's buffer holds its block when the body starts. -/
theorem before1_3 (c : Dev nD) (t : Fin cfg1.N) (d) : (dat1 V c).before 3 t d = iblk1 V c 3 t :=
  before1_3_of V (dat1 V c) (A_eq1 V c 3) (after1_3 V c) t d
/-- Window 4's buffer holds its block when the body starts. -/
theorem before1_4 (c : Dev nD) (t : Fin cfg1.N) (d) : (dat1 V c).before 4 t d = iblk1 V c 4 t :=
  before1_4_of V (dat1 V c) (A_eq1 V c 4) (after1_4 V c) t d
/-- Window 5's buffer holds its block when the body starts. -/
theorem before1_5 (c : Dev nD) (t : Fin cfg1.N) (d) : (dat1 V c).before 5 t d = iblk1 V c 5 t :=
  before1_5_of V (dat1 V c) (A_eq1 V c 5) (after1_5 V c) t d
/-- Window 6's buffer holds its block when the body starts. -/
theorem before1_6 (c : Dev nD) (t : Fin cfg1.N) (d) : (dat1 V c).before 6 t d = iblk1 V c 6 t :=
  before1_6_of V (dat1 V c) (A_eq1 V c 6) (after1_6 V c) t d
/-- Window 7's buffer holds its block when the body starts. -/
theorem before1_7 (c : Dev nD) (t : Fin cfg1.N) (d) : (dat1 V c).before 7 t d = iblk1 V c 7 t :=
  before1_7_of V (dat1 V c) (A_eq1 V c 7) (after1_7 V c) t d
/-- Window 8's buffer holds its block when the body starts. -/
theorem before1_8 (c : Dev nD) (t : Fin cfg1.N) (d) : (dat1 V c).before 8 t d = iblk1 V c 8 t :=
  before1_8_of V (dat1 V c) (A_eq1 V c 8) (after1_8 V c) t d
/-- Window 9's buffer holds its block when the body starts. -/
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Calls

end
-- ==== Proof.Ideal.Call3.lean ====
/- The third launch (the residual blocks): its body on whole staging buffers, its proof data and its obligation at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the buffers hold when the call is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- A whole buffer of this shape, as a rectangle. -/
abbrev r2_0 : Rect S6400x128 := Rect.unit (s := S6400x128) ![0, 0] S6400x128.size inb_S6400x128_S6400x128_0_0
/-- A whole buffer of this shape, as a rectangle. -/
abbrev r2_1 : Rect S6400x1 := Rect.unit (s := S6400x1) ![0, 0] S6400x1.size inb_S6400x1_S6400x1_0_0
/-- A whole buffer of this shape, as a rectangle. -/
abbrev r2_2 : Rect S1x128 := Rect.unit (s := S1x128) ![0, 0] S1x128.size inb_S1x128_S1x128_0_0
/-- A whole buffer of this shape, as a rectangle. -/
abbrev r2_3 : Rect S128x64 := Rect.unit (s := S128x64) ![0, 0] S128x64.size inb_S128x64_S128x64_0_0
/-- A whole buffer of this shape, as a rectangle. -/
abbrev r2_4 : Rect S1x64 := Rect.unit (s := S1x64) ![0, 0] S1x64.size inb_S1x64_S1x64_0_0
/-- A whole buffer of this shape, as a rectangle. -/
abbrev r2_5 : Rect S64x128 := Rect.unit (s := S64x128) ![0, 0] S64x128.size inb_S64x128_S64x128_0_0

/-! ## What the body leaves in each output window's buffer -/

/-- Window 13's staging buffer after the body, from the input windows' blocks: its 1 store as pieces, LAST
    FIRST (Lib/Pipeline/FrameBody.lean `View.canon`; the payloads are the skeleton's). -/
def out2_13 (x0 : Vec F S6400x128 .f32) (x1 : Vec F S6400x1 .f32) (x2 : Vec F S6400x128 .f32) (x3 : Vec F S1x128 .f32) (x4 : Vec F S1x128 .f32) (x5 : Vec F S128x64 .f32) (x6 : Vec F S1x64 .f32) (x7 : Vec F S64x128 .f32) (x8 : Vec F S1x128 .f32) (x9 : Vec F S128x64 .f32) (x10 : Vec F S1x64 .f32) (x11 : Vec F S64x128 .f32) (x12 : Vec F S1x128 .f32) : Vec F S6400x128 .f32 :=
  View.canon [⟨r2_0, k2_pay1 (k2_pay2 (View.ld x0 r2_0) (View.ld x1 r2_1) (View.ld x3 r2_2) (View.ld x4 r2_2)) (k2_pay3 (View.ld x0 r2_0) (View.ld x1 r2_1) (View.ld x3 r2_2) (View.ld x4 r2_2) (View.ld x5 r2_3) (View.ld x6 r2_4)) (View.ld x7 r2_5) (View.ld x8 r2_2) (View.ld x9 r2_3) (View.ld x10 r2_4) (View.ld x11 r2_5) (View.ld x12 r2_2) (View.ld x2 r2_0)⟩]

/-- Its stores tile the buffer (checked by evaluation), so they cover it. -/
theorem cover2_13 (p0 : Vec F S6400x128 .f32) (y : S6400x128.Idx) :
    ∃ pc ∈ ([⟨r2_0, p0⟩] : List (View.Piece (Elt F) S6400x128 .f32)), y ∈ pc.1.set :=
  View.cover_of_tiled [⟨r2_0, p0⟩] S6400x128.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S6400x128 .f32) (harg1 : arg1.IsWhole) (arg2 : Memref sig .tc .vmem S6400x1 .f32) (harg2 : arg2.IsWhole) (arg3 : Memref sig .tc .vmem S6400x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S64x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S64x128 .f32) (harg12 : arg12.IsWhole) (arg13 : Memref sig .tc .vmem S1x128 .f32) (harg13 : arg13.IsWhole) (arg14 : Memref sig .tc .vmem S6400x128 .f32) (harg14 : arg14.IsWhole)
    (x0 : Vec F S6400x128 .f32) (x1 : Vec F S6400x1 .f32) (x2 : Vec F S6400x128 .f32) (x3 : Vec F S1x128 .f32) (x4 : Vec F S1x128 .f32) (x5 : Vec F S128x64 .f32) (x6 : Vec F S1x64 .f32) (x7 : Vec F S64x128 .f32) (x8 : Vec F S1x128 .f32) (x9 : Vec F S128x64 .f32) (x10 : Vec F S1x64 .f32) (x11 : Vec F S64x128 .f32) (x12 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out2_13 x0 x1 x2 x3 x4 x5 x6 x7 x8 x9 x10 x11 x12)) -∗ K ⟨⟩))
      ⊢ wp frame (wpE (defs₀ (F := F)) Variants.none c none) E (cc2__k3 i arg1 harg1 arg2 harg2 arg3 harg3 arg4 harg4 arg5 harg5 arg6 harg6 arg7 harg7 arg8 harg8 arg9 harg9 arg10 harg10 arg11 harg11 arg12 harg12 arg13 harg13 arg14 harg14) K := by
  simp only [cc2__k3_eq_skeleton]; unfold cc2__k3_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover2_13 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
/-- What window 1's buffer holds after the body at a point. -/
theorem after2_1 (c : Dev nD) (t : Fin cfg2.N) : (dat2 V c).after 1 t = iblk2 V c 1 t := by dsimp only [dat2]
/-- What window 2's buffer holds after the body at a point. -/
theorem after2_2 (c : Dev nD) (t : Fin cfg2.N) : (dat2 V c).after 2 t = iblk2 V c 2 t := by dsimp only [dat2]
/-- What window 3's buffer holds after the body at a point. -/
theorem after2_3 (c : Dev nD) (t : Fin cfg2.N) : (dat2 V c).after 3 t = iblk2 V c 3 t := by dsimp only [dat2]
/-- What window 4's buffer holds after the body at a point. -/
theorem after2_4 (c : Dev nD) (t : Fin cfg2.N) : (dat2 V c).after 4 t = iblk2 V c 4 t := by dsimp only [dat2]
/-- What window 5's buffer holds after the body at a point. -/
theorem after2_5 (c : Dev nD) (t : Fin cfg2.N) : (dat2 V c).after 5 t = iblk2 V c 5 t := by dsimp only [dat2]
/-- What window 6's buffer holds after the body at a point. -/
theorem after2_6 (c : Dev nD) (t : Fin cfg2.N) : (dat2 V c).after 6 t = iblk2 V c 6 t := by dsimp only [dat2]
/-- What window 7's buffer holds after the body at a point. -/
theorem after2_7 (c : Dev nD) (t : Fin cfg2.N) : (dat2 V c).after 7 t = iblk2 V c 7 t := by dsimp only [dat2]
/-- What window 8's buffer holds after the body at a point. -/
theorem after2_8 (c : Dev nD) (t : Fin cfg2.N) : (dat2 V c).after 8 t = iblk2 V c 8 t := by dsimp only [dat2]
/-- What window 9's buffer holds after the body at a point. -/
theorem after2_9 (c : Dev nD) (t : Fin cfg2.N) : (dat2 V c).after 9 t = iblk2 V c 9 t := by dsimp only [dat2]
/-- What window 10's buffer holds after the body at a point. -/
theorem after2_10 (c : Dev nD) (t : Fin cfg2.N) : (dat2 V c).after 10 t = iblk2 V c 10 t := by dsimp only [dat2]
/-- What window 11's buffer holds after the body at a point. -/
theorem after2_11 (c : Dev nD) (t : Fin cfg2.N) : (dat2 V c).after 11 t = iblk2 V c 11 t := by dsimp only [dat2]
/-- What window 12's buffer holds after the body at a point. -/
theorem after2_12 (c : Dev nD) (t : Fin cfg2.N) : (dat2 V c).after 12 t = iblk2 V c 12 t := by dsimp only [dat2]
/-- What window 13's buffer holds after the body at a point. -/
theorem after2_13 (c : Dev nD) (t : Fin cfg2.N) : (dat2 V c).after 13 t = out2_13 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
/-- Window 1's buffer holds its block when the body starts. -/
theorem before2_1 (c : Dev nD) (t : Fin cfg2.N) (d) : (dat2 V c).before 1 t d = iblk2 V c 1 t :=
  before2_1_of V (dat2 V c) (A_eq2 V c 1) (after2_1 V c) t d
/-- Window 2's buffer holds its block when the body starts. -/
theorem before2_2 (c : Dev nD) (t : Fin cfg2.N) (d) : (dat2 V c).before 2 t d = iblk2 V c 2 t :=
  before2_2_of V (dat2 V c) (A_eq2 V c 2) (after2_2 V c) t d
/-- Window 3's buffer holds its block when the body starts. -/
theorem before2_3 (c : Dev nD) (t : Fin cfg2.N) (d) : (dat2 V c).before 3 t d = iblk2 V c 3 t :=
  before2_3_of V (dat2 V c) (A_eq2 V c 3) (after2_3 V c) t d
/-- Window 4's buffer holds its block when the body starts. -/
theorem before2_4 (c : Dev nD) (t : Fin cfg2.N) (d) : (dat2 V c).before 4 t d = iblk2 V c 4 t :=
  before2_4_of V (dat2 V c) (A_eq2 V c 4) (after2_4 V c) t d
/-- Window 5's buffer holds its block when the body starts. -/
theorem before2_5 (c : Dev nD) (t : Fin cfg2.N) (d) : (dat2 V c).before 5 t d = iblk2 V c 5 t :=
  before2_5_of V (dat2 V c) (A_eq2 V c 5) (after2_5 V c) t d
/-- Window 6's buffer holds its block when the body starts. -/
theorem before2_6 (c : Dev nD) (t : Fin cfg2.N) (d) : (dat2 V c).before 6 t d = iblk2 V c 6 t :=
  before2_6_of V (dat2 V c) (A_eq2 V c 6) (after2_6 V c) t d
/-- Window 7's buffer holds its block when the body starts. -/
theorem before2_7 (c : Dev nD) (t : Fin cfg2.N) (d) : (dat2 V c).before 7 t d = iblk2 V c 7 t :=
  before2_7_of V (dat2 V c) (A_eq2 V c 7) (after2_7 V c) t d
/-- Window 8's buffer holds its block when the body starts. -/
theorem before2_8 (c : Dev nD) (t : Fin cfg2.N) (d) : (dat2 V c).before 8 t d = iblk2 V c 8 t :=
  before2_8_of V (dat2 V c) (A_eq2 V c 8) (after2_8 V c) t d
/-- Window 9's buffer holds its block when the body starts. -/
theorem before2_9 (c : Dev nD) (t : Fin cfg2.N) (d) : (dat2 V c).before 9 t d = iblk2 V c 9 t :=
  before2_9_of V (dat2 V c) (A_eq2 V c 9) (after2_9 V c) t d
/-- Window 10's buffer holds its block when the body starts. -/
theorem before2_10 (c : Dev nD) (t : Fin cfg2.N) (d) : (dat2 V c).before 10 t d = iblk2 V c 10 t :=
  before2_10_of V (dat2 V c) (A_eq2 V c 10) (after2_10 V c) t d
/-- Window 11's buffer holds its block when the body starts. -/
theorem before2_11 (c : Dev nD) (t : Fin cfg2.N) (d) : (dat2 V c).before 11 t d = iblk2 V c 11 t :=
  before2_11_of V (dat2 V c) (A_eq2 V c 11) (after2_11 V c) t d
/-- Window 12's buffer holds its block when the body starts. -/
theorem before2_12 (c : Dev nD) (t : Fin cfg2.N) (d) : (dat2 V c).before 12 t d = iblk2 V c 12 t :=
  before2_12_of V (dat2 V c) (A_eq2 V c 12) (after2_12 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel2 c Set.univ (grid2.coords t) _ _ _ _ _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Calls

end
-- ==== Proof.Ideal.Run.lean ====
/- The run of the whole program: host operations and three launches in turn, from the launch memory to the return. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Call1
public import proofs.«01_k».proof.Proof.Ideal.Call2
public import proofs.«01_k».proof.Proof.Ideal.Call3
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_c, main_v2, main_v3, main_c_0, main_v4, main_v5, main_v6, main_v7, main_v8, main_v9, main_v10, main_v11]
/-- `hostOps0` writes those references alone. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v13, main_v14, main_v15, main_v16]
/-- `hostOps1` writes those references alone. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_cst, main_v18, main_v19, main_v20, main_cst_1, main_v21, main_cst_2, main_v22, main_v23, main_v24, main_v25, main_v26, main_v27, main_v28, main_v29, main_v30]
/-- `hostOps2` writes those references alone. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- At launch every argument array holds what the memory holds. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- At boundary 1 every argument array is as at launch. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At boundary 2 each array of the call before it holds what the call leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no array of that call is as the call found it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- At boundary 2 every argument array is as at launch. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The same, over all the buffers that are no array of the call. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- At boundary 3 every argument array is as at launch. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- At boundary 4 each array of the call before it holds what the call leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is no array of that call is as the call found it. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- At boundary 4 every argument array is as at launch. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The same, over all the buffers that are no array of the call. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- At boundary 5 every argument array is as at launch. -/
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
/-- At boundary 6 each array of the call before it holds what the call leaves. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- A buffer that is no array of that call is as the call found it. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- At boundary 6 every argument array is as at launch. -/
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
/-- The same, over all the buffers that are no array of the call. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

/-- Argument 0 ends as it was at launch. -/
theorem W6_main_arg0 (c : Dev nD) : W6 m ρ c (Proc.devRef .tc main_arg0) = m ((c : Thread nD τ).loc main_arg0) :=
  W6_args m ρ c main_arg0 (by decide)
/-- Argument 1 ends as it was at launch. -/
theorem W6_main_arg1 (c : Dev nD) : W6 m ρ c (Proc.devRef .tc main_arg1) = m ((c : Thread nD τ).loc main_arg1) :=
  W6_args m ρ c main_arg1 (by decide)
/-- Argument 2 ends as it was at launch. -/
theorem W6_main_arg2 (c : Dev nD) : W6 m ρ c (Proc.devRef .tc main_arg2) = m ((c : Thread nD τ).loc main_arg2) :=
  W6_args m ρ c main_arg2 (by decide)
/-- Argument 3 ends as it was at launch. -/
theorem W6_main_arg3 (c : Dev nD) : W6 m ρ c (Proc.devRef .tc main_arg3) = m ((c : Thread nD τ).loc main_arg3) :=
  W6_args m ρ c main_arg3 (by decide)
/-- Argument 4 ends as it was at launch. -/
theorem W6_main_arg4 (c : Dev nD) : W6 m ρ c (Proc.devRef .tc main_arg4) = m ((c : Thread nD τ).loc main_arg4) :=
  W6_args m ρ c main_arg4 (by decide)
/-- Argument 5 ends as it was at launch. -/
theorem W6_main_arg5 (c : Dev nD) : W6 m ρ c (Proc.devRef .tc main_arg5) = m ((c : Thread nD τ).loc main_arg5) :=
  W6_args m ρ c main_arg5 (by decide)
/-- Argument 6 ends as it was at launch. -/
theorem W6_main_arg6 (c : Dev nD) : W6 m ρ c (Proc.devRef .tc main_arg6) = m ((c : Thread nD τ).loc main_arg6) :=
  W6_args m ρ c main_arg6 (by decide)
/-- Argument 7 ends as it was at launch. -/
theorem W6_main_arg7 (c : Dev nD) : W6 m ρ c (Proc.devRef .tc main_arg7) = m ((c : Thread nD τ).loc main_arg7) :=
  W6_args m ρ c main_arg7 (by decide)
/-- Argument 8 ends as it was at launch. -/
theorem W6_main_arg8 (c : Dev nD) : W6 m ρ c (Proc.devRef .tc main_arg8) = m ((c : Thread nD τ).loc main_arg8) :=
  W6_args m ρ c main_arg8 (by decide)
/-- Argument 9 ends as it was at launch. -/
theorem W6_main_arg9 (c : Dev nD) : W6 m ρ c (Proc.devRef .tc main_arg9) = m ((c : Thread nD τ).loc main_arg9) :=
  W6_args m ρ c main_arg9 (by decide)
/-- Argument 10 ends as it was at launch. -/
theorem W6_main_arg10 (c : Dev nD) : W6 m ρ c (Proc.devRef .tc main_arg10) = m ((c : Thread nD τ).loc main_arg10) :=
  W6_args m ρ c main_arg10 (by decide)
/-- Argument 11 ends as it was at launch. -/
theorem W6_main_arg11 (c : Dev nD) : W6 m ρ c (Proc.devRef .tc main_arg11) = m ((c : Thread nD τ).loc main_arg11) :=
  W6_args m ρ c main_arg11 (by decide)
/-- Argument 12 ends as it was at launch. -/
theorem W6_main_arg12 (c : Dev nD) : W6 m ρ c (Proc.devRef .tc main_arg12) = m ((c : Thread nD τ).loc main_arg12) :=
  W6_args m ρ c main_arg12 (by decide)
/-- Argument 13 ends as it was at launch. -/
theorem W6_main_arg13 (c : Dev nD) : W6 m ρ c (Proc.devRef .tc main_arg13) = m ((c : Thread nD τ).loc main_arg13) :=
  W6_args m ρ c main_arg13 (by decide)
/-- Argument 14 ends as it was at launch. -/
theorem W6_main_arg14 (c : Dev nD) : W6 m ρ c (Proc.devRef .tc main_arg14) = m ((c : Thread nD τ).loc main_arg14) :=
  W6_args m ρ c main_arg14 (by decide)
/-- Argument 15 ends as it was at launch. -/
theorem W6_main_arg15 (c : Dev nD) : W6 m ρ c (Proc.devRef .tc main_arg15) = m ((c : Thread nD τ).loc main_arg15) :=
  W6_args m ρ c main_arg15 (by decide)
/-- Argument 16 ends as it was at launch. -/
theorem W6_main_arg16 (c : Dev nD) : W6 m ρ c (Proc.devRef .tc main_arg16) = m ((c : Thread nD τ).loc main_arg16) :=
  W6_args m ρ c main_arg16 (by decide)
/-- Argument 17 ends as it was at launch. -/
theorem W6_main_arg17 (c : Dev nD) : W6 m ρ c (Proc.devRef .tc main_arg17) = m ((c : Thread nD τ).loc main_arg17) :=
  W6_args m ρ c main_arg17 (by decide)
/-- Argument 18 ends as it was at launch. -/
theorem W6_main_arg18 (c : Dev nD) : W6 m ρ c (Proc.devRef .tc main_arg18) = m ((c : Thread nD τ).loc main_arg18) :=
  W6_args m ρ c main_arg18 (by decide)
/-- Argument 19 ends as it was at launch. -/
theorem W6_main_arg19 (c : Dev nD) : W6 m ρ c (Proc.devRef .tc main_arg19) = m ((c : Thread nD τ).loc main_arg19) :=
  W6_args m ρ c main_arg19 (by decide)
/-- Argument 20 ends as it was at launch. -/
theorem W6_main_arg20 (c : Dev nD) : W6 m ρ c (Proc.devRef .tc main_arg20) = m ((c : Thread nD τ).loc main_arg20) :=
  W6_args m ρ c main_arg20 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
/-- No loop of the program needs a variant. -/
abbrev 𝒱₀ : Variants := Variants.none
/-- No core owes another anything: no level is assigned. -/
abbrev L : GSem nD τ sig → Finset Unit := fun _ => ∅
/-- Every semaphore is at one level: the program has no cross waits. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_in (V1 m ρ) c]; unfold Pipeline.ΦA
    iintro ⟨Hp, -, Hr⟩
    isplitl [Hr]; · iexact Hr
    iexact Hp
  hout c := by
    rw [Pipeline.ownSems0_none]
    have hlast : (pdats m ρ 0 c).Φ (Fin.last _) ⊢ Pipeline.ΦA spec0 c := Phi0_out (V1 m ρ) c
    unfold Pipeline.ΦA at hlast
    iintro H
    ihave H' := hlast $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- Run from any launch memory with zero counters, every weakly fair execution of @main on the TensorCores terminates,
    nothing faulting, and every final state has each unscoped buffer as the six segments leave it and every semaphore counter at
    zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run defs _ _).mono (fun _ h => ⟨fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c),
       (h.1 c _ (mem_uc main_arg9 (by decide))).trans (W6_main_arg9 m ρ c),
       (h.1 c _ (mem_uc main_arg10 (by decide))).trans (W6_main_arg10 m ρ c),
       (h.1 c _ (mem_uc main_arg11 (by decide))).trans (W6_main_arg11 m ρ c),
       (h.1 c _ (mem_uc main_arg12 (by decide))).trans (W6_main_arg12 m ρ c),
       (h.1 c _ (mem_uc main_arg13 (by decide))).trans (W6_main_arg13 m ρ c),
       (h.1 c _ (mem_uc main_arg14 (by decide))).trans (W6_main_arg14 m ρ c),
       (h.1 c _ (mem_uc main_arg15 (by decide))).trans (W6_main_arg15 m ρ c),
       (h.1 c _ (mem_uc main_arg16 (by decide))).trans (W6_main_arg16 m ρ c),
       (h.1 c _ (mem_uc main_arg17 (by decide))).trans (W6_main_arg17 m ρ c),
       (h.1 c _ (mem_uc main_arg18 (by decide))).trans (W6_main_arg18 m ρ c),
       (h.1 c _ (mem_uc main_arg19 (by decide))).trans (W6_main_arg19 m ρ c),
       (h.1 c _ (mem_uc main_arg20 (by decide))).trans (W6_main_arg20 m ρ c)⟩, h.2⟩) (run m ρ)

/-- The argument arrays end unchanged, and the result is the array the third launch leaves. -/
theorem result : θ_run defs (onTc (τ := τ) (main (F := F))) ⟨m, fun _ => 0, ρ⟩ (fun r => ∀ c : Dev nD,
      r.2.mem ((c.tc : Thread nD τ).loc main_v31) = (dat2 (V5 m ρ) c).arrAt 13 cfg2.N) :=
  (θ_run defs _ _).mono (fun _ h c => (h.1 c _ (mem_uc main_v31 (by decide))).trans (W6_arr m ρ c 13)) (run m ρ)

end Cert.KernelIdeal.Calls

end
-- ==== Proof.Value.Model.lean ====
/- The mathematics of the layer, row by row over the extended reals, with no program in sight: the per-crystal sums, one
   directed edge pair's gated message, and one edge's update. Each of the two programs is shown to compute these. -/
module

public import Idealize.ShloMosaic.PureOps.Ideal

@[expose] public section

noncomputable section

namespace Cert.Model

open Idealize.ShloMosaic

/-- 128.0, the width of a row that is averaged. -/
abbrev width : EReal := Ideal.ofBits .f32 0x43000000#32
/-- The small constant under every square root. -/
abbrev eps : EReal := Ideal.ofBits .f32 0x3727C5AC#32
/-- The word of one over the square root of two, which scales the residual sum. -/
abbrev scale : EReal := Ideal.ofBits .f32 0x3F3504F3#32

/-- `x * logistic x`. -/
abbrev silu (x : EReal) : EReal := x * Ideal.logistic x

/-- The average of a row. -/
abbrev avg (x : Fin 128 → EReal) : EReal := Ideal.div (∑ k, x k) width

/-- A row centred, divided by its standard deviation, scaled and shifted. -/
abbrev layerNorm (x g b : Fin 128 → EReal) (j : Fin 128) : EReal :=
  (x j - avg x) * Ideal.rsqrt (avg (fun k => (x k - avg x) * (x k - avg x)) + eps) * g j + b j

/-- One entry of a row normalised by a mean and a variance, scaled and shifted. -/
abbrev normed (t μ ν g b : Fin 256 → EReal) (j : Fin 256) : EReal :=
  (t j - μ j) * Ideal.rsqrt (ν j + eps) * g j + b j

/-- The gate of a row: the logistic function of its second half against the gate's weights. -/
abbrev gate (y : Fin 256 → EReal) (w : Fin 128 → EReal) : EReal :=
  Ideal.logistic (∑ k : Fin 128, y ⟨128 + k.val, by omega⟩ * w k)

/-- The gated message of a normalised row: the gate times the activation of its first half's layer normalisation. -/
abbrev message (y : Fin 256 → EReal) (w g b : Fin 128 → EReal) (j : Fin 128) : EReal :=
  gate y w * silu (layerNorm (fun k => y ⟨k.val, by omega⟩) g b j)

/-- What a hidden layer of 64 adds to a row. -/
abbrev hidden (h : Fin 128 → EReal) (w₁ : Fin 128 → Fin 64 → EReal) (b₁ : Fin 64 → EReal)
    (w₂ : Fin 64 → Fin 128 → EReal) (b₂ : Fin 128 → EReal) (j : Fin 128) : EReal :=
  silu (∑ k, silu (∑ i, h i * w₁ i k + b₁ k) * w₂ k j + b₂ j)

/-- A row plus what a hidden layer adds to it. -/
abbrev residual (h : Fin 128 → EReal) (w₁ : Fin 128 → Fin 64 → EReal) (b₁ : Fin 64 → EReal)
    (w₂ : Fin 64 → Fin 128 → EReal) (b₂ : Fin 128 → EReal) (j : Fin 128) : EReal :=
  h j + hidden h w₁ b₁ w₂ b₂ j

/-- The edge's new row: its old row plus its messages' average after layer normalisation and two hidden layers, scaled. -/
abbrev edge (p : Fin 128 → EReal) (n : EReal) (x g b : Fin 128 → EReal)
    (w₁ : Fin 128 → Fin 64 → EReal) (b₁ : Fin 64 → EReal) (w₂ : Fin 64 → Fin 128 → EReal) (b₂ : Fin 128 → EReal)
    (w₃ : Fin 128 → Fin 64 → EReal) (b₃ : Fin 64 → EReal) (w₄ : Fin 64 → Fin 128 → EReal) (b₄ : Fin 128 → EReal)
    (j : Fin 128) : EReal :=
  scale * (x j + residual (residual (layerNorm (fun k => Ideal.div (p k) (max n 1)) g b) w₁ b₁ w₂ b₂) w₃ b₃ w₄ b₄ j)

/-- An edge's new row depends on its pooled messages, their number and its old row alone, the weights fixed. -/
theorem edge_congr {p p' : Fin 128 → EReal} {n n' : EReal} {x x' : Fin 128 → EReal} (hp : p = p') (hn : n = n') (hx : x = x')
    (g b : Fin 128 → EReal)
    (w₁ : Fin 128 → Fin 64 → EReal) (b₁ : Fin 64 → EReal) (w₂ : Fin 64 → Fin 128 → EReal) (b₂ : Fin 128 → EReal)
    (w₃ : Fin 128 → Fin 64 → EReal) (b₃ : Fin 64 → EReal) (w₄ : Fin 64 → Fin 128 → EReal) (b₄ : Fin 128 → EReal) (j : Fin 128) :
    edge p n x g b w₁ b₁ w₂ b₂ w₃ b₃ w₄ b₄ j = edge p' n' x' g b w₁ b₁ w₂ b₂ w₃ b₃ w₄ b₄ j := by
  subst hp hn hx
  rfl

/-- 1 where a row's crystal index is `g`, 0 elsewhere. -/
def hot (w : BitVec 32) (g : Fin 256) : EReal := if w = BitVec.ofNat 32 g.val then 1 else 0

/-- The sum of a column over the rows of crystal `g`. -/
def total {N : Nat} (b : Fin N → BitVec 32) (y : Fin N → EReal) (g : Fin 256) : EReal := ∑ a, hot (b a) g * y a

/-- How many rows crystal `g` has. -/
def countOf {N : Nat} (b : Fin N → BitVec 32) (g : Fin 256) : EReal := ∑ a, hot (b a) g

/-- A crystal's average: a sum over its rows divided by their number, or by one where it has none. -/
abbrev over (s n : EReal) : EReal := Ideal.div s (max n 1)

/-- A crystal's average of one column. -/
abbrev mean {N : Nat} (b : Fin N → BitVec 32) (t : Fin N → Fin 256 → EReal) (g : Fin 256) (j : Fin 256) : EReal :=
  over (total b (fun a => t a j) g) (countOf b g)

/-- A crystal's variance of one column: the average square less the square of the average. -/
abbrev variance {N : Nat} (b : Fin N → BitVec 32) (t : Fin N → Fin 256 → EReal) (g : Fin 256) (j : Fin 256) : EReal :=
  over (total b (fun a => t a j * t a j) g) (countOf b g) - mean b t g j * mean b t g j

/-- A sum over the crystals weighted by where a row's index points is the term of the row's own crystal. -/
theorem sum_hot (w : BitVec 32) (g : Fin 256) (h : w = BitVec.ofNat 32 g.val) (f : Fin 256 → EReal) :
    ∑ x, hot w x * f x = f g := by
  rw [Finset.sum_eq_single g]
  · rw [hot, if_pos h, one_mul]
  · intro x _ hx
    rw [hot, if_neg, zero_mul]
    intro e
    apply hx
    have e' := congrArg BitVec.toNat (e.symm.trans h)
    simp only [BitVec.toNat_ofNat] at e'
    have := x.isLt
    have := g.isLt
    exact Fin.ext (by omega)
  · intro hg
    exact absurd (Finset.mem_univ g) hg

end Cert.Model
-- ==== Proof.Value.Rows.lean ====
/- Rows added into the rows that a list of indices names, and rows taken from where such a list points, at any extents: what
   one entry of the result is. -/
module

public import Idealize.ShloMosaic.Lib.Routing.OpsPair
public import Idealize.ShloMosaic.Lib.Pointwise
public import Idealize.ShloMosaic.Lib.StableHlo.Predicate
public import proofs.«01_k».proof.Proof.Value.Model

@[expose] public section

noncomputable section

namespace Cert.Rows

open Idealize.ShloMosaic Cert.Model

/-- The matrix of extents `a` and `b`. -/
abbrev Mat (a b : Nat) : Shape := ⟨2, ![a, b]⟩

variable {R A C : Nat}

/-- Row `a` of the updates goes to the operand's row that index word `a` names. -/
abbrev addRows (wf : ScatterDims.WF (Mat R C) (Mat A 1) (Mat A C) [1] [0] [0] 1) : ScatterDims (Mat R C) (Mat A 1) (Mat A C) where
  updateWindowDims := [1]
  insertedWindowDims := [0]
  scatterDimsToOperandDims := [0]
  indexVectorDim := 1
  wf := wf

/-- The index word an update's entry reads is its row's. -/
theorem addRows_index (wf : ScatterDims.WF (Mat R C) (Mat A 1) (Mat A C) [1] [0] [0] 1) (a : Fin A) (j : Fin C)
    (k : Fin (addRows wf).scatterDimsToOperandDims.length) : (addRows wf).siIdx (ix2 a j) k = ix2 a 0 := by
  funext b
  match b with
  | ⟨0, _⟩ => rfl
  | ⟨1, _⟩ =>
    refine Fin.ext ?_
    have := k.isLt
    show k.val = 0
    exact Nat.lt_one_iff.mp this

/-- An update's entry lands at the row its index word names, read signed, in its own column. -/
theorem addRows_lands (wf : ScatterDims.WF (Mat R C) (Mat A 1) (Mat A C) [1] [0] [0] 1) (idx : IVec (Mat A 1) 32) (a : Fin A)
    (j k : Fin C) (g : Fin R) :
    (addRows wf).resultIdx? (ix2 a j) idx = some (ix2 g k) ↔ (idx (ix2 a 0)).toInt = (g.val : Int) ∧ j = k := by
  have h0 : (addRows wf).start (ix2 a j) idx 0 = (idx (ix2 a 0)).toInt := by
    unfold ScatterDims.start
    rw [dif_pos (show (0 : Fin 2) ∈ [(0 : Fin 2)] by decide), addRows_index]
  have h1 : (addRows wf).start (ix2 a j) idx 1 = 0 := by
    unfold ScatterDims.start
    rw [dif_neg (show ¬(1 : Fin 2) ∈ [(0 : Fin 2)] by decide)]
  have w0 : (addRows wf).window (ix2 a j) 0 = 0 := rfl
  have w1 : (addRows wf).window (ix2 a j) 1 = j.val := rfl
  rw [Routing.resultIdx?_eq_some]
  constructor
  · intro h
    have e0 := h 0
    have e1 := h 1
    rw [h0, w0] at e0
    rw [h1, w1] at e1
    have e0' : (idx (ix2 a 0)).toInt + ((0 : ℕ) : Int) = (g.val : Int) := e0
    have e1' : (0 : Int) + (j.val : Int) = (k.val : Int) := e1
    exact ⟨by omega, Fin.ext (by omega)⟩
  · rintro ⟨e0, rfl⟩ b
    match b with
    | ⟨0, _⟩ =>
      show (addRows wf).start (ix2 a j) idx 0 + ((addRows wf).window (ix2 a j) 0 : Int) = (g.val : Int)
      rw [h0, w0]
      omega
    | ⟨1, _⟩ =>
      show (addRows wf).start (ix2 a j) idx 1 + ((addRows wf).window (ix2 a j) 1 : Int) = (j.val : Int)
      rw [h1, w1]
      omega

/-- A word reads signed as a number below 256 exactly when it is that number's word. -/
theorem word_iff (w : BitVec 32) (g : Fin 256) : w.toInt = (g.val : Int) ↔ w = BitVec.ofNat 32 g.val := by
  have hg := g.isLt
  constructor
  · intro h
    refine BitVec.eq_of_toInt_eq ?_
    rw [h, StableHlo.Predicate.toInt_ofNat_small _ (by omega)]
  · rintro rfl
    exact StableHlo.Predicate.toInt_ofNat_small _ (by omega)

/-- Rows added into 256 rows: an entry is what was there plus its column's sum over the rows whose index names it. -/
theorem addRows_apply (wf : ScatterDims.WF (Mat 256 C) (Mat A 1) (Mat A C) [1] [0] [0] 1) (x : (Mat 256 C).Idx → EReal)
    (idx : IVec (Mat A 1) 32) (y : (Mat A C).Idx → EReal) (g : Fin 256) (k : Fin C) :
    Host.scatterAdd (F := Ideal) (φ := .f32) (addRows wf) x idx y (ix2 g k)
      = x (ix2 g k) + total (fun a => idx (ix2 a 0)) (fun a => y (ix2 a k)) g := by
  show x (ix2 g k) + ∑ i ∈ Finset.univ.filter (fun i => (addRows wf).resultIdx? i idx = some (ix2 g k)), y i = _
  refine congrArg (x (ix2 g k) + ·) ?_
  rw [Finset.sum_filter, sum_idx2]
  unfold total
  refine Finset.sum_congr rfl fun a _ => ?_
  rw [Finset.sum_eq_single k]
  · unfold hot
    by_cases h : idx (ix2 a 0) = BitVec.ofNat 32 g.val
    · rw [if_pos ((addRows_lands wf idx a k k g).mpr ⟨(word_iff _ g).mpr h, rfl⟩), if_pos h, one_mul]
    · rw [if_neg fun e => h ((word_iff _ g).mp ((addRows_lands wf idx a k k g).mp e).1), if_neg h, zero_mul]
  · intro j _ hj
    exact if_neg fun e => hj ((addRows_lands wf idx a j k g).mp e).2
  · intro h
    exact absurd (Finset.mem_univ k) h

/-- Row `a` of the result is the operand's row that index word `a` names. -/
abbrev takeRows (wf : GatherDims.WF (Mat R C) (Mat A 1) (Mat A C) [1] [0] [] [0] [] 1 ![1, C]) :
    GatherDims (Mat R C) (Mat A 1) (Mat A C) where
  offsetDims := [1]
  collapsedSliceDims := [0]
  operandBatchingDims := []
  startIndicesBatchingDims := []
  startIndexMap := [0]
  indexVectorDim := 1
  sliceSizes := ![1, C]
  wf := wf

/-- The index word a result's entry reads is its row's. -/
theorem takeRows_index (wf : GatherDims.WF (Mat R C) (Mat A 1) (Mat A C) [1] [0] [] [0] [] 1 ![1, C]) (a : Fin A) (j : Fin C)
    (k : Fin (takeRows wf).startIndexMap.length) : (takeRows wf).siIdx (ix2 a j) k = ix2 a 0 := by
  funext b
  match b with
  | ⟨0, _⟩ => rfl
  | ⟨1, _⟩ =>
    refine Fin.ext ?_
    have := k.isLt
    show k.val = 0
    exact Nat.lt_one_iff.mp this

/-- Rows taken from where indices point: an entry whose row's index is in range is the named row's. -/
theorem takeRows_apply {α : Type} (wf : GatherDims.WF (Mat 256 C) (Mat A 1) (Mat A C) [1] [0] [] [0] [] 1 ![1, C])
    (x : (Mat 256 C).Idx → α) (idx : IVec (Mat A 1) 32) (a : Fin A) (j : Fin C) (g : Fin 256)
    (h : idx (ix2 a 0) = BitVec.ofNat 32 g.val) : Host.gather (takeRows wf) x idx (ix2 a j) = x (ix2 g j) := by
  unfold Host.gather
  refine congrArg x (funext fun b => Fin.ext ?_)
  have hg := g.isLt
  match b with
  | ⟨0, _⟩ =>
    show (takeRows wf).start (ix2 a j) idx 0 + 0 + 0 = g.val
    unfold GatherDims.start
    rw [dif_pos (show (0 : Fin 2) ∈ [(0 : Fin 2)] by decide), takeRows_index, h, StableHlo.Predicate.toInt_ofNat_small _ (by omega)]
    show min (g.val : Int).toNat (256 - 1) + 0 + 0 = g.val
    omega
  | ⟨1, _⟩ =>
    show 0 + 0 + j.val = j.val
    omega

end Cert.Rows
-- ==== Proof.Reference.Value.lean ====
/- What the reference computes, row by row: the per-crystal averages, the gated message of a row and an edge's new row. -/
module

public import proofs.«01_k».proof.Proof.Gen.ReferenceIdeal.Run
public import proofs.«01_k».proof.Proof.Gen.ReferenceIdeal.Read
public import proofs.«01_k».proof.Proof.Value.Rows
public import Idealize.ShloMosaic.Lib.Pointwise

@[expose] public section

set_option maxRecDepth 16384

noncomputable section

namespace Cert.ReferenceIdeal.Layer

open Cert.ReferenceIdeal Cert.ReferenceIdeal.Gen Cert.ReferenceIdeal.Read
open Idealize.ShloMosaic Idealize.ShloMosaic.TcCoe Idealize.SL.Sem Idealize.ShloMosaic.StableHlo
open Cert.Model Cert.Rows

variable (x0 : (⟨S160000x128, .f32⟩ : BufTy).Contents (Elt Ideal)) (x1 : (⟨S320000x16, .f32⟩ : BufTy).Contents (Elt Ideal))
  (x2 : (⟨S320000x2, .i32⟩ : BufTy).Contents (Elt Ideal)) (x4 : (⟨S320000, .i32⟩ : BufTy).Contents (Elt Ideal))
  (x5 : (⟨S272x256, .f32⟩ : BufTy).Contents (Elt Ideal)) (x6 x7 : (⟨S256, .f32⟩ : BufTy).Contents (Elt Ideal))
  (x8 : (⟨S128x1, .f32⟩ : BufTy).Contents (Elt Ideal)) (x9 x10 x11 x12 : (⟨S128, .f32⟩ : BufTy).Contents (Elt Ideal))
  (x13 : (⟨S128x64, .f32⟩ : BufTy).Contents (Elt Ideal)) (x14 : (⟨S64, .f32⟩ : BufTy).Contents (Elt Ideal))
  (x15 : (⟨S64x128, .f32⟩ : BufTy).Contents (Elt Ideal)) (x16 : (⟨S128, .f32⟩ : BufTy).Contents (Elt Ideal))
  (x17 : (⟨S128x64, .f32⟩ : BufTy).Contents (Elt Ideal)) (x18 : (⟨S64, .f32⟩ : BufTy).Contents (Elt Ideal))
  (x19 : (⟨S64x128, .f32⟩ : BufTy).Contents (Elt Ideal)) (x20 : (⟨S128, .f32⟩ : BufTy).Contents (Elt Ideal))

/-- Each row's crystal index. -/
abbrev crystal (a : Fin 320000) : BitVec 32 := x4 (ix1 a)

/-- Each row's product with the weights. -/
def product (a : Fin 320000) (j : Fin 256) : EReal :=
  ∑ k : Fin 272, (val_main_v10 (F := Ideal) x0 x1 x2 : S320000x272.Idx → EReal) (ix2 a k) * (x5 : S272x256.Idx → EReal) (ix2 k j)

/-- The products' array. -/
theorem product_apply (a : Fin 320000) (j : Fin 256) :
    val_main_v11 (F := Ideal) x0 x1 x2 x5 (ix2 a j) = product x0 x1 x2 x5 a j := by
  unfold product
  pointwise [val_main_v11]

/-- The sums' array. -/
theorem sums_apply (g j : Fin 256) :
    val_main_v14 (F := Ideal) x0 x1 x2 x4 x5 (ix2 g j) = total (crystal x4) (fun a => product x0 x1 x2 x5 a j) g := by
  refine (addRows_apply _ _ _ _ g j).trans ?_
  have hz : val_main_v12 (F := Ideal) (ix2 g j) = 0 := by pointwise [val_main_v12, val_main_cst]
  rw [hz, zero_add]
  refine congrArg₂ (fun b y => total b y g) (funext fun a => ?_) (funext fun a => product_apply x0 x1 x2 x5 a j)
  pointwise [val_main_v13]

/-- The sums of squares' array. -/
theorem squares_apply (g j : Fin 256) :
    val_main_v26 (F := Ideal) x0 x1 x2 x4 x5 (ix2 g j)
      = total (crystal x4) (fun a => product x0 x1 x2 x5 a j * product x0 x1 x2 x5 a j) g := by
  refine (addRows_apply _ _ _ _ g j).trans ?_
  have hz : val_main_v24 (F := Ideal) (ix2 g j) = 0 := by pointwise [val_main_v24, val_main_cst_4]
  rw [hz, zero_add]
  refine congrArg₂ (fun b y => total b y g) (funext fun a => ?_) (funext fun a => ?_)
  · pointwise [val_main_v25]
  · pointwise [val_main_v23, product_apply]

/-- A total of ones is a count. -/
theorem total_one {N : Nat} (b : Fin N → BitVec 32) (y : Fin N → EReal) (hy : ∀ a, y a = 1) (g : Fin 256) :
    total b y g = countOf b g := by
  unfold total countOf
  refine Finset.sum_congr rfl fun a _ => ?_
  rw [hy, mul_one]

/-- The counts' arrays. -/
theorem counts_apply (g : Fin 256) : val_main_v18 (F := Ideal) x4 (ix2 g 0) = countOf (crystal x4) g := by
  refine (addRows_apply _ _ _ _ g 0).trans ?_
  have hz : val_main_v16 (F := Ideal) (ix2 g 0) = 0 := by pointwise [val_main_v16, val_main_cst_2]
  rw [hz, zero_add, total_one _ _ (fun a => by pointwise [val_main_v15, val_main_cst_1])]
  refine congrArg (fun b => countOf b g) (funext fun a => ?_)
  pointwise [val_main_v17]

/-- And the counts computed again for the squares. -/
theorem counts_again (g : Fin 256) : val_main_v30 (F := Ideal) x4 (ix2 g 0) = countOf (crystal x4) g := by
  refine (addRows_apply _ _ _ _ g 0).trans ?_
  have hz : val_main_v28 (F := Ideal) (ix2 g 0) = 0 := by pointwise [val_main_v28, val_main_cst_6]
  rw [hz, zero_add, total_one _ _ (fun a => by pointwise [val_main_v27, val_main_cst_5])]
  refine congrArg (fun b => countOf b g) (funext fun a => ?_)
  pointwise [val_main_v29]

/-- The averages' array. -/
theorem mean_apply (g j : Fin 256) :
    val_main_v22 (F := Ideal) x0 x1 x2 x4 x5 (ix2 g j) = mean (crystal x4) (product x0 x1 x2 x5) g j := by
  pointwise [val_main_v22, val_main_v21, val_main_v20, val_main_v19, val_main_cst_3, sums_apply, counts_apply]

/-- The variances' array. -/
theorem variance_apply (g j : Fin 256) :
    val_main_v36 (F := Ideal) x0 x1 x2 x4 x5 (ix2 g j) = variance (crystal x4) (product x0 x1 x2 x5) g j := by
  pointwise [val_main_v36, val_main_v35, val_main_v34, val_main_v33, val_main_v32, val_main_v31, val_main_cst_7, squares_apply,
    counts_again, mean_apply]

end Cert.ReferenceIdeal.Layer
-- ==== Proof.Value.Named.lean ====
/- What the precondition says: every crystal index is the word of a number below 256. -/
module

public import proofs.«01_k».proof.Pre_crystals_named
public import proofs.«01_k».proof.Proof.Value.Rows
public import Idealize.ShloMosaic.Lib.Affine

@[expose] public section

noncomputable section

namespace Cert.Pre_crystals_named

open Idealize.ShloMosaic Cert.Rows

/-- The predicate's side condition holds. -/
instance facts : Facts := ⟨by decide⟩

variable [Facts]

/-- A word that reads signed as a number from 0 to 255 is that number's word. -/
theorem word_named (w : BitVec 32) (h : (IntOp.cmpi .sge w 0#32) &&& (IntOp.cmpi .slt w 256#32) = 1#1) :
    ∃ g : Fin 256, w = BitVec.ofNat 32 g.val := by
  obtain ⟨h0, h1⟩ := IntOp.andi_eq_one.mp h
  have l0 := IntOp.cmpi_sge.mp h0
  have l1 := IntOp.cmpi_slt.mp h1
  rw [show (0#32 : BitVec 32).toInt = 0 from by decide] at l0
  rw [show (256#32 : BitVec 32).toInt = 256 from by decide] at l1
  exact ⟨⟨w.toInt.toNat, by omega⟩, (word_iff w _).mp (Int.toNat_of_nonneg l0).symm⟩

/-- Where the predicate is all ones, every crystal index is in range. -/
theorem named {x0 : FVec Ideal S160000x128 .f32} {x1 : FVec Ideal S320000x16 .f32} {x2 : IVec S320000x2 32}
    {x3 : IVec S160000 32} {x4 : IVec S320000 32} {x5 : FVec Ideal S272x256 .f32} {x6 x7 : FVec Ideal S256 .f32}
    {x8 : FVec Ideal S128x1 .f32} {x9 x10 x11 x12 : FVec Ideal S128 .f32} {x13 : FVec Ideal S128x64 .f32}
    {x14 : FVec Ideal S64 .f32} {x15 : FVec Ideal S64x128 .f32} {x16 : FVec Ideal S128 .f32} {x17 : FVec Ideal S128x64 .f32}
    {x18 : FVec Ideal S64 .f32} {x19 : FVec Ideal S64x128 .f32} {x20 : FVec Ideal S128 .f32}
    (h : fn (F := Ideal) x0 x1 x2 x3 x4 x5 x6 x7 x8 x9 x10 x11 x12 x13 x14 x15 x16 x17 x18 x19 x20 = fun _ => 1#1) :
    ∃ g : Fin 320000 → Fin 256, ∀ a, x4 (ix1 a) = BitVec.ofNat 32 (g a).val :=
  ⟨fun a => (word_named (x4 (ix1 a)) (congrFun h (ix1 a))).choose,
    fun a => (word_named (x4 (ix1 a)) (congrFun h (ix1 a))).choose_spec⟩

end Cert.Pre_crystals_named
-- ==== Proof.Value.Blocks.lean ====
/- What one grid point of each launch computes, read at an index: the printed bodies are the model's rows. -/
module

public import proofs.«01_k».proof.Proof.Gen.KernelIdeal.Skeleton
public import proofs.«01_k».proof.Proof.Value.Model
public import Idealize.ShloMosaic.Lib.Pointwise

@[expose] public section

set_option maxRecDepth 16384

noncomputable section

namespace Cert.KernelIdeal.Blocks

open Cert.KernelIdeal Cert.KernelIdeal.Gen Idealize.ShloMosaic Cert.Model

/-- A comparison's bit, widened and converted, is the model's weight. -/
theorem hot_word (w : BitVec 32) (g : Fin 256) :
    FloatOps.sitofp (F := Ideal) FTy.f32 (BitVec.setWidth 32 (IntOp.cmpi CmpIPredicate.eq w (BitVec.ofNat 32 g.val))) = hot w g := by
  show (((BitVec.setWidth 32 (IntOp.cmpi CmpIPredicate.eq w (BitVec.ofNat 32 g.val))).toInt : ℝ) : EReal) = hot w g
  unfold hot
  by_cases h : w = BitVec.ofNat 32 g.val
  · rw [if_pos h]; simp [IntOp.cmpi, h]
  · have e : (w == BitVec.ofNat 32 g.val) = false := by simpa using h
    rw [if_neg h]; simp [IntOp.cmpi, e]

/-- The first launch's product at a row and column. -/
theorem linear_apply (x : Vec Ideal S6400x272 .f32) (w : Vec Ideal S272x256 .f32) (r : Fin 6400) (j : Fin 256) :
    k0_pay2 (F := Ideal) x w (ix2 r j) = ∑ k : Fin 272, x (ix2 r k) * w (ix2 k j) := by
  pointwise [k0_pay2]

/-- The first launch's table of weights. -/
theorem onehot_apply (b : Vec Ideal S6400x1 .i32) (r : Fin 6400) (g : Fin 256) :
    k0_pay3 (F := Ideal) b (ix2 r g) = hot (b (ix2 r 0)) g := by
  pointwise [k0_pay3, hot_word]

/-- The accumulators start at zero. -/
theorem zeroS_apply (g j : Fin 256) : k0_pay4 (F := Ideal) (ix2 g j) = 0 := by pointwise [k0_pay4]
/-- The squares' accumulator starts at zero. -/
theorem zeroQ_apply (g j : Fin 256) : k0_pay5 (F := Ideal) (ix2 g j) = 0 := by pointwise [k0_pay5]
/-- The counts' accumulator starts at zero. -/
theorem zeroC_apply (g : Fin 256) : k0_pay6 (F := Ideal) (ix2 0 g) = 0 := by pointwise [k0_pay6]

/-- A point adds its rows' sums to the accumulated sums. -/
theorem stepS_apply (x : Vec Ideal S6400x272 .f32) (w : Vec Ideal S272x256 .f32) (b : Vec Ideal S6400x1 .i32)
    (s : Vec Ideal S256x256 .f32) (g j : Fin 256) :
    k0_pay7 (F := Ideal) x w b s (ix2 g j)
      = s (ix2 g j) + total (fun r => b (ix2 r 0)) (fun r => k0_pay2 (F := Ideal) x w (ix2 r j)) g := by
  unfold total
  pointwise [k0_pay7, onehot_apply]

/-- A point adds its rows' sums of squares to those accumulated. -/
theorem stepQ_apply (x : Vec Ideal S6400x272 .f32) (w : Vec Ideal S272x256 .f32) (b : Vec Ideal S6400x1 .i32)
    (s : Vec Ideal S256x256 .f32) (g j : Fin 256) :
    k0_pay8 (F := Ideal) x w b s (ix2 g j)
      = s (ix2 g j) + total (fun r => b (ix2 r 0))
          (fun r => k0_pay2 (F := Ideal) x w (ix2 r j) * k0_pay2 (F := Ideal) x w (ix2 r j)) g := by
  unfold total
  pointwise [k0_pay8, onehot_apply]

/-- A point adds its rows' numbers to the counts. -/
theorem stepC_apply (b : Vec Ideal S6400x1 .i32) (s : Vec Ideal S1x256 .f32) (g : Fin 256) :
    k0_pay1 (F := Ideal) (k0_pay3 b) s (ix2 0 g) = s (ix2 0 g) + countOf (fun r => b (ix2 r 0)) g := by
  unfold countOf
  pointwise [k0_pay1, onehot_apply]

/-- The second launch's normalised row, for a row whose crystal index is in range: its mean and variance are its own
    crystal's. -/
theorem normed_apply (n : Vec Ideal S1x256 .f32) (s q : Vec Ideal S256x256 .f32) (b : Vec Ideal S6400x1 .i32)
    (t : Vec Ideal S6400x256 .f32) (γ β : Vec Ideal S1x256 .f32) (r : Fin 6400) (g : Fin 256)
    (h : b (ix2 r 0) = BitVec.ofNat 32 g.val) (j : Fin 256) :
    k1_pay2 (F := Ideal) n s q b t γ β (ix2 r j)
      = normed (fun j => t (ix2 r j)) (fun j => over (s (ix2 g j)) (n (ix2 0 g)))
          (fun j => over (q (ix2 g j)) (n (ix2 0 g)) - over (s (ix2 g j)) (n (ix2 0 g)) * over (s (ix2 g j)) (n (ix2 0 g)))
          (fun j => γ (ix2 0 j)) (fun j => β (ix2 0 j)) j := by
  pointwise [k1_pay2, hot_word]
  rw [sum_hot _ g h, sum_hot _ g h]

/-- The second launch's result row from its normalised row. -/
theorem message_apply (y : FVec Ideal S6400x256 .f32) (γ β : Vec Ideal S1x128 .f32) (w : Vec Ideal S128x1 .f32)
    (r : Fin 6400) (j : Fin 128) :
    k1_pay1 (F := Ideal) y (extractStridedSlice S6400x128 ![0, 0] y slices_S6400x256_o0_0_S6400x128) γ β w (ix2 r j)
      = message (fun j => y (ix2 r j)) (fun k => w (ix2 k 0)) (fun k => γ (ix2 0 k)) (fun k => β (ix2 0 k)) j := by
  pointwise [k1_pay1]

/-- The third launch's layer normalisation of a row's average. -/
theorem pooled_apply (p : Vec Ideal S6400x128 .f32) (n : Vec Ideal S6400x1 .f32) (γ β : Vec Ideal S1x128 .f32)
    (r : Fin 6400) (j : Fin 128) :
    k2_pay2 (F := Ideal) p n γ β (ix2 r j)
      = layerNorm (fun k => Ideal.div (p (ix2 r k)) (max (n (ix2 r 0)) 1)) (fun k => γ (ix2 0 k)) (fun k => β (ix2 0 k)) j := by
  pointwise [k2_pay2]

/-- The third launch's result row. -/
theorem edge_apply (p : Vec Ideal S6400x128 .f32) (n : Vec Ideal S6400x1 .f32) (x : Vec Ideal S6400x128 .f32)
    (γ β : Vec Ideal S1x128 .f32)
    (w₁ : Vec Ideal S128x64 .f32) (b₁ : Vec Ideal S1x64 .f32) (w₂ : Vec Ideal S64x128 .f32) (b₂ : Vec Ideal S1x128 .f32)
    (w₃ : Vec Ideal S128x64 .f32) (b₃ : Vec Ideal S1x64 .f32) (w₄ : Vec Ideal S64x128 .f32) (b₄ : Vec Ideal S1x128 .f32)
    (r : Fin 6400) (j : Fin 128) :
    k2_pay1 (F := Ideal) (k2_pay2 p n γ β) (k2_pay3 p n γ β w₁ b₁) w₂ b₂ w₃ b₃ w₄ b₄ x (ix2 r j)
      = edge (fun k => p (ix2 r k)) (n (ix2 r 0)) (fun k => x (ix2 r k)) (fun k => γ (ix2 0 k)) (fun k => β (ix2 0 k))
          (fun i k => w₁ (ix2 i k)) (fun k => b₁ (ix2 0 k)) (fun i k => w₂ (ix2 i k)) (fun k => b₂ (ix2 0 k))
          (fun i k => w₃ (ix2 i k)) (fun k => b₃ (ix2 0 k)) (fun i k => w₄ (ix2 i k)) (fun k => b₄ (ix2 0 k)) j := by
  pointwise [k2_pay1, k2_pay3, pooled_apply]

end Cert.KernelIdeal.Blocks
-- ==== Proof.Value.Arrays1.lean ====
/- What the first launch leaves in its four arrays: every row's product with the weights, and the per-crystal sums, sums of
   squares and counts over all rows, each the points' block sums added up in turn. -/
module

public import proofs.«01_k».proof.Proof.Ideal.Call1
public import proofs.«01_k».proof.Proof.Value.Blocks
public import Idealize.ShloMosaic.Lib.Pointwise
public import Idealize.ShloMosaic.Lib.Pipeline.ValueKit

@[expose] public section

set_option maxRecDepth 16384

noncomputable section

namespace Cert.KernelIdeal.Arrays

open Cert.KernelIdeal Cert.KernelIdeal.Gen Cert.KernelIdeal.Calls Cert.KernelIdeal.Blocks
open Idealize.ShloMosaic Idealize.ShloMosaic.TcCoe Idealize.SL.Sem Cert.Model
open Idealize.ShloMosaic.Pipeline (Dat Cfg Window)

-- what the buffers hold when the call is entered
variable (V : (c : Dev nD) → (b : Ref sig .tc) → Buf (Elt Ideal) ((c : Thread nD τ).loc b))

/-- The launch's operands as arrays: the rows, each row's crystal index, the weights. -/
abbrev rows0 (c : Dev nD) : S320000x272.Idx → EReal := V c main_v10
/-- The crystal indices. -/
abbrev crys0 (c : Dev nD) : S320000x1.Idx → BitVec 32 := V c main_v11
/-- The weights. -/
abbrev weights0 (c : Dev nD) : S272x256.Idx → EReal := V c main_arg5

/-- A row's product with the weights at a column, and a row's crystal index. -/
def lin (c : Dev nD) (a : Fin 320000) (j : Fin 256) : EReal := ∑ k : Fin 272, rows0 V c (ix2 a k) * weights0 V c (ix2 k j)
/-- A row's crystal index. -/
def idx (c : Dev nD) (a : Fin 320000) : BitVec 32 := crys0 V c (ix2 a 0)

/-- Which block each window is at. -/
theorem index0 : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

/-- Row `r` of point `t`'s block is this row of the array. -/
abbrev rowAt (t : Fin cfg0.N) (r : Fin 6400) : Fin 320000 :=
  ⟨t.val * 6400 + r.val, by have := lt_of_lt_of_eq t.isLt N_0; omega⟩

/-- A point's product is the array's rows' product. -/
theorem lin_block (c : Dev nD) (t : Fin cfg0.N) (r : Fin 6400) (j : Fin 256) :
    k0_pay2 (F := Ideal) (iblk0 V c 0 t) (iblk0 V c 2 t) (ix2 r j) = lin V c (rowAt t r) j := by
  refine (linear_apply _ _ r j).trans ?_
  unfold lin
  refine Finset.sum_congr rfl fun k _ => ?_
  congr 1
  · blk_ext [iblk0, (index0 t).1]
  · blk_ext [iblk0, (index0 t).2.2.1]

/-- A point's crystal indices are the array's rows'. -/
theorem idx_block (c : Dev nD) (t : Fin cfg0.N) (r : Fin 6400) :
    (iblk0 V c 1 t : S6400x1.Idx → BitVec 32) (ix2 r 0) = idx V c (rowAt t r) := by
  unfold idx
  blk_ext [iblk0, (index0 t).2.1]

/-- The products' array. -/
theorem products (c : Dev nD) :
    (dat0 V c).arrAt 3 cfg0.N = (fun i => lin V c (i 0) (i 1) : S320000x256.Idx → EReal) := by
  refine (dat0 V c).arrAt_eq_of_covers 3 _ (by decide +kernel) fun t hf y => ?_
  blk_simp
  rw [after0_3]
  obtain ⟨r, j, rfl⟩ : ∃ (r : Fin 6400) (j : Fin 256), y = ix2 r j := ⟨y 0, y 1, eq_ix2 y⟩
  have h0 : (rowAt t r).val = (((cfg0.win 3).blk t).view.emb (ix2 r j) 0).val := by
    blk_simp [(index0 t).2.2.2]
  have h1 : j.val = (((cfg0.win 3).blk t).view.emb (ix2 r j) 1).val := by
    blk_simp [(index0 t).2.2.2]
  exact (lin_block V c t r j).trans (congrArg₂ (lin V c) (Fin.ext h0) (Fin.ext h1))

/-- The grid's last point. -/
abbrev last0 : Fin cfg0.N := ⟨49, lt_of_lt_of_eq (by decide) N_0.symm⟩

/-- What a point adds to a crystal's sum of one column. -/
theorem sums_at (c : Dev nD) (t : Fin cfg0.N) (s : Vec Ideal S256x256 .f32) (g j : Fin 256) :
    stepS (iblk0 V c 0 t) (iblk0 V c 1 t) (iblk0 V c 2 t) s (ix2 g j)
      = s (ix2 g j) + ∑ r : Fin 6400, hot (idx V c (rowAt t r)) g * lin V c (rowAt t r) j := by
  refine (stepS_apply _ _ _ s g j).trans ?_
  unfold total
  refine congrArg (s (ix2 g j) + ·) (Finset.sum_congr rfl fun r _ => ?_)
  exact congrArg₂ (fun b y => hot b g * y) (idx_block V c t r) (lin_block V c t r j)

/-- What a point adds to a crystal's sum of squares of one column. -/
theorem squares_at (c : Dev nD) (t : Fin cfg0.N) (s : Vec Ideal S256x256 .f32) (g j : Fin 256) :
    stepQ (iblk0 V c 0 t) (iblk0 V c 1 t) (iblk0 V c 2 t) s (ix2 g j)
      = s (ix2 g j) + ∑ r : Fin 6400, hot (idx V c (rowAt t r)) g * (lin V c (rowAt t r) j * lin V c (rowAt t r) j) := by
  refine (stepQ_apply _ _ _ s g j).trans ?_
  unfold total
  refine congrArg (s (ix2 g j) + ·) (Finset.sum_congr rfl fun r _ => ?_)
  exact congrArg₂ (fun b y => hot b g * (y * y)) (idx_block V c t r) (lin_block V c t r j)

/-- What a point adds to a crystal's count. -/
theorem counts_at (c : Dev nD) (t : Fin cfg0.N) (s : Vec Ideal S1x256 .f32) (g : Fin 256) :
    stepC (iblk0 V c 1 t) s (ix2 0 g) = s (ix2 0 g) + ∑ r : Fin 6400, hot (idx V c (rowAt t r)) g := by
  refine (stepC_apply _ s g).trans ?_
  unfold countOf
  refine congrArg (s (ix2 0 g) + ·) (Finset.sum_congr rfl fun r _ => ?_)
  exact congrArg (fun b => hot b g) (idx_block V c t r)

/-- A number that starts a grid at zero and is added to at every point, each time a sum over the point's rows of one
    function of the row, ends at that function's sum over all rows. -/
theorem sweep (f : (n : ℕ) → n < cfg0.N → EReal) (z : EReal) (y : Fin 320000 → EReal) (hz : z = 0)
    (h0 : ∀ t : Fin cfg0.N, t.val = 0 → f t.val t.isLt = z + ∑ r : Fin 6400, y (rowAt t r))
    (hs : ∀ t : Fin cfg0.N, t.val ≠ 0 → f t.val t.isLt
      = f (t.val - 1) (Nat.lt_of_le_of_lt (Nat.sub_le _ _) t.isLt) + ∑ r : Fin 6400, y (rowAt t r)) :
    f last0.val last0.isLt = ∑ a, y a := by
  refine (Pipeline.eq_sum_fin_of_reset_step_last f 50 z (fun t => ∑ r : Fin 6400, y (rowAt t r))
    (fun t h => h0 t (by have := lt_of_lt_of_eq t.isLt N_0; omega)) (fun t h => hs t fun e => h (by rw [e]))
    N_0.le last0 N_0.symm).trans ?_
  rw [hz, zero_add]
  exact Fin.sum_mul_add_congr (fun t r h => rfl) (by show 320000 = grid0.N * 6400; rw [N_0])

/-- The sums accumulated over the whole grid. -/
theorem sums_sweep (c : Dev nD) (g j : Fin 256) :
    (accAt V c last0.val last0.isLt).1 (ix2 g j) = total (idx V c) (fun a => lin V c a j) g :=
  sweep (fun n h => (accAt V c n h).1 (ix2 g j)) _ _ (zeroS_apply g j)
    (fun t h => by rw [accAt_first V c t h]; exact sums_at V c t _ g j)
    (fun t h => by
      rw [accAt_next V c t h (Nat.lt_of_le_of_lt (Nat.sub_le _ _) t.isLt)]; exact sums_at V c t _ g j)

/-- The sums of squares accumulated over the whole grid. -/
theorem squares_sweep (c : Dev nD) (g j : Fin 256) :
    (accAt V c last0.val last0.isLt).2.1 (ix2 g j) = total (idx V c) (fun a => lin V c a j * lin V c a j) g :=
  sweep (fun n h => (accAt V c n h).2.1 (ix2 g j)) _ _ (zeroQ_apply g j)
    (fun t h => by rw [accAt_first V c t h]; exact squares_at V c t _ g j)
    (fun t h => by
      rw [accAt_next V c t h (Nat.lt_of_le_of_lt (Nat.sub_le _ _) t.isLt)]; exact squares_at V c t _ g j)

/-- The counts accumulated over the whole grid. -/
theorem counts_sweep (c : Dev nD) (g : Fin 256) :
    (accAt V c last0.val last0.isLt).2.2 (ix2 0 g) = countOf (idx V c) g :=
  sweep (fun n h => (accAt V c n h).2.2 (ix2 0 g)) _ _ (zeroC_apply g)
    (fun t h => by rw [accAt_first V c t h]; exact counts_at V c t _ g)
    (fun t h => by
      rw [accAt_next V c t h (Nat.lt_of_le_of_lt (Nat.sub_le _ _) t.isLt)]; exact counts_at V c t _ g)

/-- The sums' array. -/
theorem sums (c : Dev nD) (g j : Fin 256) :
    ((dat0 V c).arrAt 4 cfg0.N : S256x256.Idx → EReal) (ix2 g j) = total (idx V c) (fun a => lin V c a j) g := by
  refine Eq.trans (congrFun ((dat0 V c).arrAt_eq_of_after_last 4 last0 (by decide +kernel)
    (accAt V c last0.val last0.isLt).1 fun i => ?_) (ix2 g j)) (sums_sweep V c g j)
  rw [after0_4]
  blk_simp
  rfl

/-- The sums of squares' array. -/
theorem squares (c : Dev nD) (g j : Fin 256) :
    ((dat0 V c).arrAt 5 cfg0.N : S256x256.Idx → EReal) (ix2 g j)
      = total (idx V c) (fun a => lin V c a j * lin V c a j) g := by
  refine Eq.trans (congrFun ((dat0 V c).arrAt_eq_of_after_last 5 last0 (by decide +kernel)
    (accAt V c last0.val last0.isLt).2.1 fun i => ?_) (ix2 g j)) (squares_sweep V c g j)
  rw [after0_5]
  blk_simp
  rfl

/-- The counts' array. -/
theorem counts (c : Dev nD) (g : Fin 256) :
    ((dat0 V c).arrAt 6 cfg0.N : S1x256.Idx → EReal) (ix2 0 g) = countOf (idx V c) g := by
  refine Eq.trans (congrFun ((dat0 V c).arrAt_eq_of_after_last 6 last0 (by decide +kernel)
    (accAt V c last0.val last0.isLt).2.2 fun i => ?_) (ix2 0 g)) (counts_sweep V c g)
  rw [after0_6]
  blk_simp
  rfl

end Cert.KernelIdeal.Arrays
-- ==== Proof.Value.Arrays2.lean ====
/- What the second launch leaves in its array: every row's gated message, from the row's entry of the first launch's array
   and its own crystal's sums and count. -/
module

public import proofs.«01_k».proof.Proof.Ideal.Call2
public import proofs.«01_k».proof.Proof.Value.Blocks
public import Idealize.ShloMosaic.Lib.Pointwise
public import Idealize.ShloMosaic.Lib.Pipeline.ValueKit

@[expose] public section

set_option maxRecDepth 16384

noncomputable section

namespace Cert.KernelIdeal.Arrays

open Cert.KernelIdeal Cert.KernelIdeal.Gen Cert.KernelIdeal.Calls Cert.KernelIdeal.Blocks
open Idealize.ShloMosaic Idealize.ShloMosaic.TcCoe Idealize.SL.Sem Cert.Model
open Idealize.ShloMosaic.Pipeline (Dat Cfg Window)

-- what the buffers hold when the call is entered
variable (V : (c : Dev nD) → (b : Ref sig .tc) → Buf (Elt Ideal) ((c : Thread nD τ).loc b))

/-- The launch's operands as arrays. -/
abbrev rows1 (c : Dev nD) : S320000x256.Idx → EReal := V c main_v12_0
/-- The crystal indices. -/
abbrev crys1 (c : Dev nD) : S320000x1.Idx → BitVec 32 := V c main_v11
/-- The crystals' sums. -/
abbrev sums1 (c : Dev nD) : S256x256.Idx → EReal := V c main_v12_1
/-- The crystals' sums of squares. -/
abbrev squares1 (c : Dev nD) : S256x256.Idx → EReal := V c main_v12_2
/-- The crystals' counts. -/
abbrev counts1 (c : Dev nD) : S1x256.Idx → EReal := V c main_v12_3
/-- The scale of the normalisation. -/
abbrev scale1 (c : Dev nD) : S1x256.Idx → EReal := V c main_v13
/-- The shift of the normalisation. -/
abbrev shift1 (c : Dev nD) : S1x256.Idx → EReal := V c main_v14
/-- The gate's weights. -/
abbrev gate1 (c : Dev nD) : S128x1.Idx → EReal := V c main_arg8
/-- The layer normalisation's scale. -/
abbrev gain1 (c : Dev nD) : S1x128.Idx → EReal := V c main_v15
/-- The layer normalisation's shift. -/
abbrev bias1 (c : Dev nD) : S1x128.Idx → EReal := V c main_v16

/-- Which block each window is at: the row windows' is the point's, every other is the whole array. -/
theorem index1 : ∀ t : Fin cfg1.N, win1_0.index t = ![t.val, 0] ∧ win1_1.index t = ![t.val, 0] ∧ win1_10.index t = ![t.val, 0] :=
  (by decide +kernel : ∀ t : Fin grid1.N, _)

/-- The small arrays are staged whole at every point. -/
theorem whole1 : ∀ t : Fin cfg1.N, win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0]
    ∧ win1_9.index t = ![0, 0] :=
  (by decide +kernel : ∀ t : Fin grid1.N, _)

/-- Row `r` of point `t`'s block is this row of the array. -/
abbrev rowAt1 (t : Fin cfg1.N) (r : Fin 6400) : Fin 320000 :=
  ⟨t.val * 6400 + r.val, by have := lt_of_lt_of_eq t.isLt N_1; omega⟩

/-- The windows' blocks, read at coordinates. -/
theorem rows1_block (c : Dev nD) (t : Fin cfg1.N) (r : Fin 6400) (j : Fin 256) :
    (iblk1 V c 0 t : S6400x256.Idx → EReal) (ix2 r j) = rows1 V c (ix2 (rowAt1 t r) j) := by
  blk_ext [iblk1, (index1 t).1]

/-- A point's block of the crystal indices. -/
theorem crys1_block (c : Dev nD) (t : Fin cfg1.N) (r : Fin 6400) :
    (iblk1 V c 1 t : S6400x1.Idx → BitVec 32) (ix2 r 0) = crys1 V c (ix2 (rowAt1 t r) 0) := by
  blk_ext [iblk1, (index1 t).2.1]

/-- Every point's block of the crystals' sums is all of it. -/
theorem sums1_block (c : Dev nD) (t : Fin cfg1.N) : (iblk1 V c 2 t : S256x256.Idx → EReal) = sums1 V c := by
  funext i
  blk_ext [iblk1, (whole1 t).1]

/-- Every point's block of the crystals' sums of squares is all of it. -/
theorem squares1_block (c : Dev nD) (t : Fin cfg1.N) : (iblk1 V c 3 t : S256x256.Idx → EReal) = squares1 V c := by
  funext i
  blk_ext [iblk1, (whole1 t).2.1]

/-- Every point's block of the crystals' counts is all of it. -/
theorem counts1_block (c : Dev nD) (t : Fin cfg1.N) : (iblk1 V c 4 t : S1x256.Idx → EReal) = counts1 V c := by
  funext i
  blk_ext [iblk1, (whole1 t).2.2.1]

/-- Every point's block of the scale of the normalisation is all of it. -/
theorem scale1_block (c : Dev nD) (t : Fin cfg1.N) : (iblk1 V c 5 t : S1x256.Idx → EReal) = scale1 V c := by
  funext i
  blk_ext [iblk1, (whole1 t).2.2.2.1]

/-- Every point's block of the shift of the normalisation is all of it. -/
theorem shift1_block (c : Dev nD) (t : Fin cfg1.N) : (iblk1 V c 6 t : S1x256.Idx → EReal) = shift1 V c := by
  funext i
  blk_ext [iblk1, (whole1 t).2.2.2.2.1]

/-- Every point's block of the gate's weights is all of it. -/
theorem gate1_block (c : Dev nD) (t : Fin cfg1.N) : (iblk1 V c 7 t : S128x1.Idx → EReal) = gate1 V c := by
  funext i
  blk_ext [iblk1, (whole1 t).2.2.2.2.2.1]

/-- Every point's block of the layer normalisation's scale is all of it. -/
theorem gain1_block (c : Dev nD) (t : Fin cfg1.N) : (iblk1 V c 8 t : S1x128.Idx → EReal) = gain1 V c := by
  funext i
  blk_ext [iblk1, (whole1 t).2.2.2.2.2.2.1]

/-- Every point's block of the layer normalisation's shift is all of it. -/
theorem bias1_block (c : Dev nD) (t : Fin cfg1.N) : (iblk1 V c 9 t : S1x128.Idx → EReal) = bias1 V c := by
  funext i
  blk_ext [iblk1, (whole1 t).2.2.2.2.2.2.2]

/-- What one point stores, with its loads and its one store opened. -/
theorem out1_open (x0 : Vec Ideal S6400x256 .f32) (x1 : Vec Ideal S6400x1 .i32) (x2 x3 : Vec Ideal S256x256 .f32)
    (x4 x5 x6 : Vec Ideal S1x256 .f32) (x7 : Vec Ideal S128x1 .f32) (x8 x9 : Vec Ideal S1x128 .f32) :
    out1_10 x0 x1 x2 x3 x4 x5 x6 x7 x8 x9
      = k1_pay1 (k1_pay2 x4 x2 x3 x1 x0 x5 x6) (extractStridedSlice S6400x128 ![0, 0] (k1_pay2 x4 x2 x3 x1 x0 x5 x6)
          slices_S6400x256_o0_0_S6400x128) x8 x9 x7 := by
  unfold out1_10
  frame_out
  rfl

/-- A row normalised by the sums and the count of a crystal. -/
def normed1 (c : Dev nD) (a : Fin 320000) (g : Fin 256) (j : Fin 256) : EReal :=
  normed (fun j => rows1 V c (ix2 a j)) (fun j => over (sums1 V c (ix2 g j)) (counts1 V c (ix2 0 g)))
    (fun j => over (squares1 V c (ix2 g j)) (counts1 V c (ix2 0 g))
      - over (sums1 V c (ix2 g j)) (counts1 V c (ix2 0 g)) * over (sums1 V c (ix2 g j)) (counts1 V c (ix2 0 g)))
    (fun j => scale1 V c (ix2 0 j)) (fun j => shift1 V c (ix2 0 j)) j

/-- A row's gated message, the row's crystal given. -/
def message1 (c : Dev nD) (g : Fin 320000 → Fin 256) (a : Fin 320000) (j : Fin 128) : EReal :=
  message (normed1 V c a (g a)) (fun k => gate1 V c (ix2 k 0)) (fun k => gain1 V c (ix2 0 k)) (fun k => bias1 V c (ix2 0 k)) j

/-- A point's result row is the array's row's message. -/
theorem message_block (c : Dev nD) (g : Fin 320000 → Fin 256)
    (hg : ∀ a, crys1 V c (ix2 a 0) = BitVec.ofNat 32 (g a).val) (t : Fin cfg1.N) (r : Fin 6400) (j : Fin 128) :
    out1_10 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (iblk1 V c 9 t) (ix2 r j)
      = message1 V c g (rowAt1 t r) j := by
  rw [out1_open, sums1_block, squares1_block, counts1_block, scale1_block, shift1_block, gate1_block, gain1_block, bias1_block]
  refine (message_apply _ _ _ _ r j).trans ?_
  unfold message1
  have hn : (fun j => k1_pay2 (F := Ideal) (counts1 V c) (sums1 V c) (squares1 V c) (iblk1 V c 1 t) (iblk1 V c 0 t)
      (scale1 V c) (shift1 V c) (ix2 r j)) = normed1 V c (rowAt1 t r) (g (rowAt1 t r)) := by
    funext j
    refine (normed_apply _ _ _ _ _ _ _ r (g (rowAt1 t r)) ((crys1_block V c t r).trans (hg _)) j).trans ?_
    exact congrArg (fun y => normed y _ _ _ _ j) (funext fun j => rows1_block V c t r j)
  rw [hn]

/-- The messages' array. -/
theorem messages (c : Dev nD) (g : Fin 320000 → Fin 256) (hg : ∀ a, crys1 V c (ix2 a 0) = BitVec.ofNat 32 (g a).val) :
    (dat1 V c).arrAt 10 cfg1.N = (fun i => message1 V c g (i 0) (i 1) : S320000x128.Idx → EReal) := by
  refine (dat1 V c).arrAt_eq_of_covers 10 _ (by decide +kernel) fun t hf y => ?_
  blk_simp
  rw [after1_10]
  obtain ⟨r, j, rfl⟩ : ∃ (r : Fin 6400) (j : Fin 128), y = ix2 r j := ⟨y 0, y 1, eq_ix2 y⟩
  have h0 : (rowAt1 t r).val = (((cfg1.win 10).blk t).view.emb (ix2 r j) 0).val := by
    blk_simp [(index1 t).2.2]
  have h1 : j.val = (((cfg1.win 10).blk t).view.emb (ix2 r j) 1).val := by
    blk_simp [(index1 t).2.2]
  exact (message_block V c g hg t r j).trans (congrArg₂ (message1 V c g) (Fin.ext h0) (Fin.ext h1))

end Cert.KernelIdeal.Arrays
-- ==== Proof.Value.Arrays3.lean ====
/- What the third launch leaves in its array: every edge's new row, from its pooled messages, their number and its old row. -/
module

public import proofs.«01_k».proof.Proof.Ideal.Call3
public import proofs.«01_k».proof.Proof.Value.Blocks
public import Idealize.ShloMosaic.Lib.Pointwise
public import Idealize.ShloMosaic.Lib.Pipeline.ValueKit

@[expose] public section

set_option maxRecDepth 16384

noncomputable section

namespace Cert.KernelIdeal.Arrays

open Cert.KernelIdeal Cert.KernelIdeal.Gen Cert.KernelIdeal.Calls Cert.KernelIdeal.Blocks
open Idealize.ShloMosaic Idealize.ShloMosaic.TcCoe Idealize.SL.Sem Cert.Model
open Idealize.ShloMosaic.Pipeline (Dat Cfg Window)

-- what the buffers hold when the call is entered
variable (V : (c : Dev nD) → (b : Ref sig .tc) → Buf (Elt Ideal) ((c : Thread nD τ).loc b))

/-- The launch's operands as arrays: pooled messages, their numbers, old rows, then scales, weights and biases. -/
abbrev pooled2 (c : Dev nD) : S160000x128.Idx → EReal := V c main_v20
/-- The edges' numbers of messages. -/
abbrev number2 (c : Dev nD) : S160000x1.Idx → EReal := V c main_v24
/-- The edges' old rows. -/
abbrev rows2 (c : Dev nD) : S160000x128.Idx → EReal := V c main_arg0
/-- The layer normalisation's scale. -/
abbrev gamma2 (c : Dev nD) : S1x128.Idx → EReal := V c main_v25
/-- The layer normalisation's shift. -/
abbrev beta2 (c : Dev nD) : S1x128.Idx → EReal := V c main_v26
/-- The first hidden layer's weights in. -/
abbrev first2 (c : Dev nD) : S128x64.Idx → EReal := V c main_arg13
/-- The first hidden layer's bias in. -/
abbrev firstBias2 (c : Dev nD) : S1x64.Idx → EReal := V c main_v27
/-- The first hidden layer's weights out. -/
abbrev second2 (c : Dev nD) : S64x128.Idx → EReal := V c main_arg15
/-- The first hidden layer's bias out. -/
abbrev secondBias2 (c : Dev nD) : S1x128.Idx → EReal := V c main_v28
/-- The second hidden layer's weights in. -/
abbrev third2 (c : Dev nD) : S128x64.Idx → EReal := V c main_arg17
/-- The second hidden layer's bias in. -/
abbrev thirdBias2 (c : Dev nD) : S1x64.Idx → EReal := V c main_v29
/-- The second hidden layer's weights out. -/
abbrev fourth2 (c : Dev nD) : S64x128.Idx → EReal := V c main_arg19
/-- The second hidden layer's bias out. -/
abbrev fourthBias2 (c : Dev nD) : S1x128.Idx → EReal := V c main_v30

/-- Which block each window is at: the row windows' is the point's, every other is the whole array. -/
theorem index2 : ∀ t : Fin cfg2.N, win2_0.index t = ![t.val, 0] ∧ win2_1.index t = ![t.val, 0] ∧ win2_2.index t = ![t.val, 0]
    ∧ win2_13.index t = ![t.val, 0] :=
  (by decide +kernel : ∀ t : Fin grid2.N, _)

/-- The small arrays are staged whole at every point. -/
theorem whole2 : ∀ t : Fin cfg2.N, win2_3.index t = ![0, 0] ∧ win2_4.index t = ![0, 0] ∧ win2_5.index t = ![0, 0] ∧ win2_6.index t = ![0, 0] ∧ win2_7.index t = ![0, 0]
    ∧ win2_8.index t = ![0, 0] ∧ win2_9.index t = ![0, 0] ∧ win2_10.index t = ![0, 0] ∧ win2_11.index t = ![0, 0] ∧ win2_12.index t = ![0, 0] :=
  (by decide +kernel : ∀ t : Fin grid2.N, _)

/-- Row `r` of point `t`'s block is this row of the array. -/
abbrev rowAt2 (t : Fin cfg2.N) (r : Fin 6400) : Fin 160000 :=
  ⟨t.val * 6400 + r.val, by have := lt_of_lt_of_eq t.isLt N_2; omega⟩

/-- The windows' blocks, read at coordinates. -/
theorem pooled2_block (c : Dev nD) (t : Fin cfg2.N) (r : Fin 6400) (j : Fin 128) :
    (iblk2 V c 0 t : S6400x128.Idx → EReal) (ix2 r j) = pooled2 V c (ix2 (rowAt2 t r) j) := by
  blk_ext [iblk2, (index2 t).1]

/-- A point's block of the edges' numbers of messages. -/
theorem number2_block (c : Dev nD) (t : Fin cfg2.N) (r : Fin 6400) :
    (iblk2 V c 1 t : S6400x1.Idx → EReal) (ix2 r 0) = number2 V c (ix2 (rowAt2 t r) 0) := by
  blk_ext [iblk2, (index2 t).2.1]

/-- A point's block of the edges' old rows. -/
theorem rows2_block (c : Dev nD) (t : Fin cfg2.N) (r : Fin 6400) (j : Fin 128) :
    (iblk2 V c 2 t : S6400x128.Idx → EReal) (ix2 r j) = rows2 V c (ix2 (rowAt2 t r) j) := by
  blk_ext [iblk2, (index2 t).2.2.1]

/-- Every point's block of the layer normalisation's scale is all of it. -/
theorem gamma2_block (c : Dev nD) (t : Fin cfg2.N) : (iblk2 V c 3 t : S1x128.Idx → EReal) = gamma2 V c := by
  funext i
  blk_ext [iblk2, (whole2 t).1]

/-- Every point's block of the layer normalisation's shift is all of it. -/
theorem beta2_block (c : Dev nD) (t : Fin cfg2.N) : (iblk2 V c 4 t : S1x128.Idx → EReal) = beta2 V c := by
  funext i
  blk_ext [iblk2, (whole2 t).2.1]

/-- Every point's block of the first hidden layer's weights in is all of it. -/
theorem first2_block (c : Dev nD) (t : Fin cfg2.N) : (iblk2 V c 5 t : S128x64.Idx → EReal) = first2 V c := by
  funext i
  blk_ext [iblk2, (whole2 t).2.2.1]

/-- Every point's block of the first hidden layer's bias in is all of it. -/
theorem firstBias2_block (c : Dev nD) (t : Fin cfg2.N) : (iblk2 V c 6 t : S1x64.Idx → EReal) = firstBias2 V c := by
  funext i
  blk_ext [iblk2, (whole2 t).2.2.2.1]

/-- Every point's block of the first hidden layer's weights out is all of it. -/
theorem second2_block (c : Dev nD) (t : Fin cfg2.N) : (iblk2 V c 7 t : S64x128.Idx → EReal) = second2 V c := by
  funext i
  blk_ext [iblk2, (whole2 t).2.2.2.2.1]

/-- Every point's block of the first hidden layer's bias out is all of it. -/
theorem secondBias2_block (c : Dev nD) (t : Fin cfg2.N) : (iblk2 V c 8 t : S1x128.Idx → EReal) = secondBias2 V c := by
  funext i
  blk_ext [iblk2, (whole2 t).2.2.2.2.2.1]

/-- Every point's block of the second hidden layer's weights in is all of it. -/
theorem third2_block (c : Dev nD) (t : Fin cfg2.N) : (iblk2 V c 9 t : S128x64.Idx → EReal) = third2 V c := by
  funext i
  blk_ext [iblk2, (whole2 t).2.2.2.2.2.2.1]

/-- Every point's block of the second hidden layer's bias in is all of it. -/
theorem thirdBias2_block (c : Dev nD) (t : Fin cfg2.N) : (iblk2 V c 10 t : S1x64.Idx → EReal) = thirdBias2 V c := by
  funext i
  blk_ext [iblk2, (whole2 t).2.2.2.2.2.2.2.1]

/-- Every point's block of the second hidden layer's weights out is all of it. -/
theorem fourth2_block (c : Dev nD) (t : Fin cfg2.N) : (iblk2 V c 11 t : S64x128.Idx → EReal) = fourth2 V c := by
  funext i
  blk_ext [iblk2, (whole2 t).2.2.2.2.2.2.2.2.1]

/-- Every point's block of the second hidden layer's bias out is all of it. -/
theorem fourthBias2_block (c : Dev nD) (t : Fin cfg2.N) : (iblk2 V c 12 t : S1x128.Idx → EReal) = fourthBias2 V c := by
  funext i
  blk_ext [iblk2, (whole2 t).2.2.2.2.2.2.2.2.2]

/-- What one point stores, with its loads and its one store opened. -/
theorem out2_open (x0 : Vec Ideal S6400x128 .f32) (x1 : Vec Ideal S6400x1 .f32) (x2 : Vec Ideal S6400x128 .f32)
    (x3 x4 : Vec Ideal S1x128 .f32) (x5 : Vec Ideal S128x64 .f32) (x6 : Vec Ideal S1x64 .f32) (x7 : Vec Ideal S64x128 .f32)
    (x8 : Vec Ideal S1x128 .f32) (x9 : Vec Ideal S128x64 .f32) (x10 : Vec Ideal S1x64 .f32) (x11 : Vec Ideal S64x128 .f32)
    (x12 : Vec Ideal S1x128 .f32) :
    out2_13 x0 x1 x2 x3 x4 x5 x6 x7 x8 x9 x10 x11 x12
      = k2_pay1 (k2_pay2 x0 x1 x3 x4) (k2_pay3 x0 x1 x3 x4 x5 x6) x7 x8 x9 x10 x11 x12 x2 := by
  unfold out2_13
  frame_out

/-- An edge's new row. -/
def edge2 (c : Dev nD) (e : Fin 160000) (j : Fin 128) : EReal :=
  edge (fun k => pooled2 V c (ix2 e k)) (number2 V c (ix2 e 0)) (fun k => rows2 V c (ix2 e k))
    (fun k => gamma2 V c (ix2 0 k)) (fun k => beta2 V c (ix2 0 k))
    (fun i k => first2 V c (ix2 i k)) (fun k => firstBias2 V c (ix2 0 k))
    (fun i k => second2 V c (ix2 i k)) (fun k => secondBias2 V c (ix2 0 k))
    (fun i k => third2 V c (ix2 i k)) (fun k => thirdBias2 V c (ix2 0 k))
    (fun i k => fourth2 V c (ix2 i k)) (fun k => fourthBias2 V c (ix2 0 k)) j

/-- A point's result row is the array's row's. -/
theorem edge_block (c : Dev nD) (t : Fin cfg2.N) (r : Fin 6400) (j : Fin 128) :
    out2_13 (F := Ideal) (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t)
        (iblk2 V c 12 t) (ix2 r j)
      = edge2 V c (rowAt2 t r) j := by
  rw [out2_open, gamma2_block, beta2_block, first2_block, firstBias2_block, second2_block, secondBias2_block, third2_block,
    thirdBias2_block, fourth2_block, fourthBias2_block]
  refine (edge_apply _ _ _ _ _ _ _ _ _ _ _ _ _ r j).trans ?_
  unfold edge2
  have hp : (fun k => (iblk2 V c 0 t : S6400x128.Idx → EReal) (ix2 r k)) = fun k => pooled2 V c (ix2 (rowAt2 t r) k) :=
    funext fun k => pooled2_block V c t r k
  have hx : (fun k => (iblk2 V c 2 t : S6400x128.Idx → EReal) (ix2 r k)) = fun k => rows2 V c (ix2 (rowAt2 t r) k) :=
    funext fun k => rows2_block V c t r k
  exact edge_congr hp (number2_block V c t r) hx _ _ _ _ _ _ _ _ _ _ j

/-- The result's array. -/
theorem edges (c : Dev nD) :
    (dat2 V c).arrAt 13 cfg2.N = (fun i => edge2 V c (i 0) (i 1) : S160000x128.Idx → EReal) := by
  refine (dat2 V c).arrAt_eq_of_covers 13 _ (by decide +kernel) fun t hf y => ?_
  blk_simp
  rw [after2_13]
  obtain ⟨r, j, rfl⟩ : ∃ (r : Fin 6400) (j : Fin 128), y = ix2 r j := ⟨y 0, y 1, eq_ix2 y⟩
  have h0 : (rowAt2 t r).val = (((cfg2.win 13).blk t).view.emb (ix2 r j) 0).val := by
    blk_simp [(index2 t).2.2.2]
  have h1 : j.val = (((cfg2.win 13).blk t).view.emb (ix2 r j) 1).val := by
    blk_simp [(index2 t).2.2.2]
  exact (edge_block V c t r j).trans (congrArg₂ (edge2 V c) (Fin.ext h0) (Fin.ext h1))

end Cert.KernelIdeal.Arrays
-- ==== Proof.Value.Host.lean ====
/- What the kernel's host operations compute between the launches, from any contents of the buffers they read. -/
module

public import proofs.«01_k».proof.Proof.Gen.KernelIdeal.Launch
public import proofs.«01_k».proof.Proof.Gen.ReferenceIdeal.Read
public import Idealize.ShloMosaic.Lib.StableHlo.ReadAt
public import Idealize.ShloMosaic.Lib.Pointwise

@[expose] public section

set_option maxRecDepth 16384

noncomputable section

namespace Cert.KernelIdeal.Host

open Cert.KernelIdeal Cert.KernelIdeal.Gen
open Idealize.ShloMosaic Idealize.ShloMosaic.TcCoe Idealize.SL.Sem

-- what the buffers hold before the operations
variable (W : Valuation τ sig (Elt Ideal))

/-- What a buffer holds, at its name. -/
abbrev held (r : Ref sig .tc) := W (Proc.devRef .tc r)

/-- The first stretch's rows are the reference's: the gathered pairs of rows beside the angle's features. -/
theorem rows_read : (StableHlo.after hostOps0 W (Proc.devRef .tc main_v10) : S320000x272.Idx → EReal)
    = Cert.ReferenceIdeal.Read.val_main_v10 (F := Ideal) (held W main_arg0) (held W main_arg1) (held W main_arg2) := by
  after_reads_simp
  rfl

/-- The first stretch's column of crystal indices. -/
theorem crystals_read (a : Fin 320000) : (StableHlo.after hostOps0 W (Proc.devRef .tc main_v11) : S320000x1.Idx → BitVec 32) (ix2 a 0)
    = (held W main_arg4 : S320000.Idx → BitVec 32) (ix1 a) := by
  after_reads_at

/-- The first stretch's source indices are the reference's. -/
theorem sources_read : (StableHlo.after hostOps0 W (Proc.devRef .tc main_v1) : S320000.Idx → BitVec 32)
    = Cert.ReferenceIdeal.Read.val_main_v1 (F := Ideal) (held W main_arg2) := by
  after_reads_simp
  rfl

/-- The second stretch's rows of scales and shifts. -/
theorem scale_read (j : Fin 256) : (StableHlo.after hostOps1 W (Proc.devRef .tc main_v13) : S1x256.Idx → EReal) (ix2 0 j)
    = (held W main_arg6 : S256.Idx → EReal) (ix1 j) := by
  after_reads_at

/-- The second stretch leaves the shift row at its argument. -/
theorem shift_read (j : Fin 256) : (StableHlo.after hostOps1 W (Proc.devRef .tc main_v14) : S1x256.Idx → EReal) (ix2 0 j)
    = (held W main_arg7 : S256.Idx → EReal) (ix1 j) := by
  after_reads_at

/-- The second stretch leaves the layer normalisation's scale row at its argument. -/
theorem gain_read (j : Fin 128) : (StableHlo.after hostOps1 W (Proc.devRef .tc main_v15) : S1x128.Idx → EReal) (ix2 0 j)
    = (held W main_arg9 : S128.Idx → EReal) (ix1 j) := by
  after_reads_at

/-- The second stretch leaves the layer normalisation's shift row at its argument. -/
theorem bias_read (j : Fin 128) : (StableHlo.after hostOps1 W (Proc.devRef .tc main_v16) : S1x128.Idx → EReal) (ix2 0 j)
    = (held W main_arg10 : S128.Idx → EReal) (ix1 j) := by
  after_reads_at

/-- The third stretch's pooled messages, the reference's sum over any messages. -/
theorem pooled_read : (StableHlo.after hostOps2 W (Proc.devRef .tc main_v20) : S160000x128.Idx → EReal)
    = Host.scatterAdd (F := Ideal) (φ := .f32) Cert.ReferenceIdeal.scatter_S160000x128_S320000x1_S320000x128_1_0_0_1
        (Cert.ReferenceIdeal.Read.val_main_v98 (F := Ideal))
        (broadcastInDim S320000x1 ![0] bcast_S320000_S320000x1_0 (held W main_v1 : S320000.Idx → BitVec 32))
        (held W main_v17 : S320000x128.Idx → EReal) := by
  after_reads_simp
  rfl

/-- The third stretch's number of messages of an edge, the reference's. -/
theorem number_read : (StableHlo.after hostOps2 W (Proc.devRef .tc main_v24) : S160000x1.Idx → EReal)
    = Host.scatterAdd (F := Ideal) (φ := .f32) Cert.ReferenceIdeal.scatter_S160000x1_S320000x1_S320000x1_1_0_0_1
        (Cert.ReferenceIdeal.Read.val_main_v102 (F := Ideal))
        (broadcastInDim S320000x1 ![0] bcast_S320000_S320000x1_0 (held W main_v1 : S320000.Idx → BitVec 32))
        (Cert.ReferenceIdeal.Read.val_main_v101 (F := Ideal)) := by
  after_reads_simp
  rfl

/-- The third stretch's rows of scales and biases. -/
theorem gamma_read (j : Fin 128) : (StableHlo.after hostOps2 W (Proc.devRef .tc main_v25) : S1x128.Idx → EReal) (ix2 0 j)
    = (held W main_arg11 : S128.Idx → EReal) (ix1 j) := by
  after_reads_at

/-- The third stretch leaves the shift row at its argument. -/
theorem beta_read (j : Fin 128) : (StableHlo.after hostOps2 W (Proc.devRef .tc main_v26) : S1x128.Idx → EReal) (ix2 0 j)
    = (held W main_arg12 : S128.Idx → EReal) (ix1 j) := by
  after_reads_at

/-- The third stretch leaves the first bias row at its argument. -/
theorem firstBias_read (j : Fin 64) : (StableHlo.after hostOps2 W (Proc.devRef .tc main_v27) : S1x64.Idx → EReal) (ix2 0 j)
    = (held W main_arg14 : S64.Idx → EReal) (ix1 j) := by
  after_reads_at

/-- The third stretch leaves the second bias row at its argument. -/
theorem secondBias_read (j : Fin 128) : (StableHlo.after hostOps2 W (Proc.devRef .tc main_v28) : S1x128.Idx → EReal) (ix2 0 j)
    = (held W main_arg16 : S128.Idx → EReal) (ix1 j) := by
  after_reads_at

/-- The third stretch leaves the third bias row at its argument. -/
theorem thirdBias_read (j : Fin 64) : (StableHlo.after hostOps2 W (Proc.devRef .tc main_v29) : S1x64.Idx → EReal) (ix2 0 j)
    = (held W main_arg18 : S64.Idx → EReal) (ix1 j) := by
  after_reads_at

/-- The third stretch leaves the fourth bias row at its argument. -/
theorem fourthBias_read (j : Fin 128) : (StableHlo.after hostOps2 W (Proc.devRef .tc main_v30) : S1x128.Idx → EReal) (ix2 0 j)
    = (held W main_arg20 : S128.Idx → EReal) (ix1 j) := by
  after_reads_at

end Cert.KernelIdeal.Host
-- ==== Proof.Reference.Message.lean ====
/- The reference's message of a row: its product normalised by its own crystal's mean and variance, then gated. -/
module

public import proofs.«01_k».proof.Proof.Gen.ReferenceIdeal.Run
public import proofs.«01_k».proof.Proof.Gen.ReferenceIdeal.Read
public import proofs.«01_k».proof.Proof.Reference.Value
public import Idealize.ShloMosaic.Lib.Pointwise

@[expose] public section

set_option maxRecDepth 16384

noncomputable section

namespace Cert.ReferenceIdeal.Layer

open Cert.ReferenceIdeal Cert.ReferenceIdeal.Gen Cert.ReferenceIdeal.Read
open Idealize.ShloMosaic Idealize.ShloMosaic.TcCoe Idealize.SL.Sem Idealize.ShloMosaic.StableHlo
open Cert.Model Cert.Rows

variable (x0 : (⟨S160000x128, .f32⟩ : BufTy).Contents (Elt Ideal)) (x1 : (⟨S320000x16, .f32⟩ : BufTy).Contents (Elt Ideal))
  (x2 : (⟨S320000x2, .i32⟩ : BufTy).Contents (Elt Ideal)) (x4 : (⟨S320000, .i32⟩ : BufTy).Contents (Elt Ideal))
  (x5 : (⟨S272x256, .f32⟩ : BufTy).Contents (Elt Ideal)) (x6 x7 : (⟨S256, .f32⟩ : BufTy).Contents (Elt Ideal))
  (x8 : (⟨S128x1, .f32⟩ : BufTy).Contents (Elt Ideal)) (x9 x10 x11 x12 : (⟨S128, .f32⟩ : BufTy).Contents (Elt Ideal))
  (x13 : (⟨S128x64, .f32⟩ : BufTy).Contents (Elt Ideal)) (x14 : (⟨S64, .f32⟩ : BufTy).Contents (Elt Ideal))
  (x15 : (⟨S64x128, .f32⟩ : BufTy).Contents (Elt Ideal)) (x16 : (⟨S128, .f32⟩ : BufTy).Contents (Elt Ideal))
  (x17 : (⟨S128x64, .f32⟩ : BufTy).Contents (Elt Ideal)) (x18 : (⟨S64, .f32⟩ : BufTy).Contents (Elt Ideal))
  (x19 : (⟨S64x128, .f32⟩ : BufTy).Contents (Elt Ideal)) (x20 : (⟨S128, .f32⟩ : BufTy).Contents (Elt Ideal))

/-- An index below 256 reads signed as a number that is not negative, so wrapping it leaves it. -/
theorem wrap_word (g : Fin 256) (y : BitVec 32) :
    Scalar.select (IntOp.cmpi .slt (BitVec.ofNat 32 g.val) 0#32) y (BitVec.ofNat 32 g.val) = BitVec.ofNat 32 g.val := by
  refine Routing.wrap_of_lt _ _ ?_
  have := g.isLt
  simp only [BitVec.toNat_ofNat]
  omega

/-- The wrapped indices, where a row's index is in range. -/
theorem wrapped_apply (a : Fin 320000) (g : Fin 256) (h : crystal x4 a = BitVec.ofNat 32 g.val) :
    val_main_v42 (F := Ideal) x4 (ix2 a 0) = BitVec.ofNat 32 g.val := by
  refine Eq.trans ?_ (wrap_word g (BitVec.ofNat 32 g.val + 256#32))
  rw [← h]
  pointwise [val_main_c_8, val_main_v37, val_main_v38, val_main_c_9, val_main_v39, val_main_v40, val_main_v41,
    val_main_v42]
  rfl

/-- The same for the second taking of rows. -/
theorem wrapped_again (a : Fin 320000) (g : Fin 256) (h : crystal x4 a = BitVec.ofNat 32 g.val) :
    val_main_v50 (F := Ideal) x4 (ix2 a 0) = BitVec.ofNat 32 g.val := by
  refine Eq.trans ?_ (wrap_word g (BitVec.ofNat 32 g.val + 256#32))
  rw [← h]
  pointwise [val_main_c_10, val_main_v45, val_main_v46, val_main_c_11, val_main_v47, val_main_v48, val_main_v49,
    val_main_v50]
  rfl

/-- The mean a row is centred by is its crystal's. -/
theorem mean_taken (a : Fin 320000) (g : Fin 256) (h : crystal x4 a = BitVec.ofNat 32 g.val) (j : Fin 256) :
    val_main_v43 (F := Ideal) x0 x1 x2 x4 x5 (ix2 a j) = mean (crystal x4) (product x0 x1 x2 x5) g j :=
  (takeRows_apply _ _ _ a j g (wrapped_apply x4 a g h)).trans (mean_apply x0 x1 x2 x4 x5 g j)

/-- The variance a row is scaled by is its crystal's. -/
theorem variance_taken (a : Fin 320000) (g : Fin 256) (h : crystal x4 a = BitVec.ofNat 32 g.val) (j : Fin 256) :
    val_main_v51 (F := Ideal) x0 x1 x2 x4 x5 (ix2 a j) = variance (crystal x4) (product x0 x1 x2 x5) g j :=
  (takeRows_apply _ _ _ a j g (wrapped_again x4 a g h)).trans (variance_apply x0 x1 x2 x4 x5 g j)

/-- A normalised row. -/
theorem normed_row (a : Fin 320000) (g : Fin 256) (h : crystal x4 a = BitVec.ofNat 32 g.val) (j : Fin 256) :
    val_main_v61 (F := Ideal) x0 x1 x2 x4 x5 x6 x7 (ix2 a j)
      = normed (product x0 x1 x2 x5 a) (mean (crystal x4) (product x0 x1 x2 x5) g)
          (variance (crystal x4) (product x0 x1 x2 x5) g) (fun j => (x6 : S256.Idx → EReal) (ix1 j))
          (fun j => (x7 : S256.Idx → EReal) (ix1 j)) j := by
  have hm := mean_taken x0 x1 x2 x4 x5 a g h
  have hv := variance_taken x0 x1 x2 x4 x5 a g h
  pointwise [val_main_v44, val_main_cst_12, val_main_v52, val_main_v53, val_main_v54, val_main_v55, val_main_v56,
    val_main_v57, val_main_v58, val_main_v59, val_main_v60, val_main_v61, product_apply, hm, hv]

/-- A row's gated message from its normalised row. -/
theorem message_row (a : Fin 320000) (j : Fin 128) :
    val_main_v97 (F := Ideal) x0 x1 x2 x4 x5 x6 x7 x8 x9 x10 (ix2 a j)
      = message (fun j => (val_main_v61 (F := Ideal) x0 x1 x2 x4 x5 x6 x7 : S320000x256.Idx → EReal) (ix2 a j))
          (fun k => (x8 : S128x1.Idx → EReal) (ix2 k 0)) (fun k => (x9 : S128.Idx → EReal) (ix1 k))
          (fun k => (x10 : S128.Idx → EReal) (ix1 k)) j := by
  pointwise [val_main_v62, val_main_v63, val_main_cst_13, val_main_v64, val_main_v65, val_main_cst_14,
    val_main_v66, val_main_v67, val_main_v68, val_main_v69, val_main_v70, val_main_cst_15, val_main_v71,
    val_main_v72, val_main_cst_16, val_main_v73, val_main_v74, val_main_v75, val_main_v76,
    val_main_cst_17, val_main_v77, val_main_v78, val_main_v79, val_main_v80, val_main_v81, val_main_v82,
    val_main_v83, val_main_v84, val_main_v85, val_main_v86, val_main_v87, val_main_call0_v0,
    val_main_call0_v1, val_main_call0_cst, val_main_call0_v2, val_main_call0_v3, val_main_call0_cst_0,
    val_main_call0_v4, val_main_call0_v5, val_main_v88, val_main_v89, val_main_v90, val_main_v91,
    val_main_cst_18, val_main_v92, val_main_v93, val_main_cst_19, val_main_v94, val_main_v95,
    val_main_v96, val_main_v97]
  rfl

end Cert.ReferenceIdeal.Layer
-- ==== Proof.Reference.Edge.lean ====
/- The reference's new row of an edge, from its pooled messages and their number. -/
module

public import proofs.«01_k».proof.Proof.Gen.ReferenceIdeal.Run
public import proofs.«01_k».proof.Proof.Gen.ReferenceIdeal.Read
public import proofs.«01_k».proof.Proof.Reference.Value
public import Idealize.ShloMosaic.Lib.Pointwise

@[expose] public section

set_option maxRecDepth 16384

noncomputable section

namespace Cert.ReferenceIdeal.Layer

open Cert.ReferenceIdeal Cert.ReferenceIdeal.Gen Cert.ReferenceIdeal.Read
open Idealize.ShloMosaic Idealize.ShloMosaic.TcCoe Idealize.SL.Sem Idealize.ShloMosaic.StableHlo
open Cert.Model Cert.Rows

variable (x0 : (⟨S160000x128, .f32⟩ : BufTy).Contents (Elt Ideal)) (x1 : (⟨S320000x16, .f32⟩ : BufTy).Contents (Elt Ideal))
  (x2 : (⟨S320000x2, .i32⟩ : BufTy).Contents (Elt Ideal)) (x4 : (⟨S320000, .i32⟩ : BufTy).Contents (Elt Ideal))
  (x5 : (⟨S272x256, .f32⟩ : BufTy).Contents (Elt Ideal)) (x6 x7 : (⟨S256, .f32⟩ : BufTy).Contents (Elt Ideal))
  (x8 : (⟨S128x1, .f32⟩ : BufTy).Contents (Elt Ideal)) (x9 x10 x11 x12 : (⟨S128, .f32⟩ : BufTy).Contents (Elt Ideal))
  (x13 : (⟨S128x64, .f32⟩ : BufTy).Contents (Elt Ideal)) (x14 : (⟨S64, .f32⟩ : BufTy).Contents (Elt Ideal))
  (x15 : (⟨S64x128, .f32⟩ : BufTy).Contents (Elt Ideal)) (x16 : (⟨S128, .f32⟩ : BufTy).Contents (Elt Ideal))
  (x17 : (⟨S128x64, .f32⟩ : BufTy).Contents (Elt Ideal)) (x18 : (⟨S64, .f32⟩ : BufTy).Contents (Elt Ideal))
  (x19 : (⟨S64x128, .f32⟩ : BufTy).Contents (Elt Ideal)) (x20 : (⟨S128, .f32⟩ : BufTy).Contents (Elt Ideal))

/-- An edge's average message, normalised. -/
theorem pooled_row (e : Fin 160000) (j : Fin 128) :
    val_main_v132 (F := Ideal) x0 x1 x2 x4 x5 x6 x7 x8 x9 x10 x11 x12 (ix2 e j)
      = layerNorm (fun k => Ideal.div ((val_main_v100 (F := Ideal) x0 x1 x2 x4 x5 x6 x7 x8 x9 x10 : S160000x128.Idx → EReal) (ix2 e k))
            (max ((val_main_v104 (F := Ideal) x2 : S160000x1.Idx → EReal) (ix2 e 0)) 1))
          (fun k => (x11 : S128.Idx → EReal) (ix1 k)) (fun k => (x12 : S128.Idx → EReal) (ix1 k)) j := by
  pointwise [val_main_cst_23, val_main_v105, val_main_v106, val_main_v107, val_main_v108, val_main_cst_24,
    val_main_v109, val_main_v110, val_main_cst_25, val_main_v111, val_main_v112, val_main_v113,
    val_main_v114, val_main_v115, val_main_cst_26, val_main_v116, val_main_v117, val_main_cst_27,
    val_main_v118, val_main_v119, val_main_v120, val_main_v121, val_main_cst_28, val_main_v122,
    val_main_v123, val_main_v124, val_main_v125, val_main_v126, val_main_v127, val_main_v128,
    val_main_v129, val_main_v130, val_main_v131, val_main_v132]

/-- What the first hidden layer makes of a row. -/
theorem first_row (e : Fin 160000) (j : Fin 128) :
    val_main_v143 (F := Ideal) x0 x1 x2 x4 x5 x6 x7 x8 x9 x10 x11 x12 x13 x14 x15 x16 (ix2 e j)
      = residual (fun k => (val_main_v132 (F := Ideal) x0 x1 x2 x4 x5 x6 x7 x8 x9 x10 x11 x12 : S160000x128.Idx → EReal) (ix2 e k))
          (fun i k => (x13 : S128x64.Idx → EReal) (ix2 i k)) (fun k => (x14 : S64.Idx → EReal) (ix1 k))
          (fun i k => (x15 : S64x128.Idx → EReal) (ix2 i k)) (fun k => (x16 : S128.Idx → EReal) (ix1 k)) j := by
  pointwise [val_main_v133, val_main_v134, val_main_v135, val_main_v136, val_main_call1_v0, val_main_call1_v1,
    val_main_call1_cst, val_main_call1_v2, val_main_call1_v3, val_main_call1_cst_0, val_main_call1_v4,
    val_main_call1_v5, val_main_v137, val_main_v138, val_main_v139, val_main_v140, val_main_v141,
    val_main_call2_v0, val_main_call2_v1, val_main_call2_cst, val_main_call2_v2, val_main_call2_v3,
    val_main_call2_cst_0, val_main_call2_v4, val_main_call2_v5, val_main_v142, val_main_v143]
  rfl

/-- What the second hidden layer makes of a row. -/
theorem second_row (e : Fin 160000) (j : Fin 128) :
    val_main_v154 (F := Ideal) x0 x1 x2 x4 x5 x6 x7 x8 x9 x10 x11 x12 x13 x14 x15 x16 x17 x18 x19 x20 (ix2 e j)
      = residual (fun k => (val_main_v143 (F := Ideal) x0 x1 x2 x4 x5 x6 x7 x8 x9 x10 x11 x12 x13 x14 x15 x16 : S160000x128.Idx → EReal) (ix2 e k))
          (fun i k => (x17 : S128x64.Idx → EReal) (ix2 i k)) (fun k => (x18 : S64.Idx → EReal) (ix1 k))
          (fun i k => (x19 : S64x128.Idx → EReal) (ix2 i k)) (fun k => (x20 : S128.Idx → EReal) (ix1 k)) j := by
  pointwise [val_main_v144, val_main_v145, val_main_v146, val_main_v147, val_main_call3_v0, val_main_call3_v1,
    val_main_call3_cst, val_main_call3_v2, val_main_call3_v3, val_main_call3_cst_0, val_main_call3_v4,
    val_main_call3_v5, val_main_v148, val_main_v149, val_main_v150, val_main_v151, val_main_v152,
    val_main_call4_v0, val_main_call4_v1, val_main_call4_cst, val_main_call4_v2, val_main_call4_v3,
    val_main_call4_cst_0, val_main_call4_v4, val_main_call4_v5, val_main_v153, val_main_v154]
  rfl

/-- An edge's new row. -/
theorem edge_row (e : Fin 160000) (j : Fin 128) :
    val_main_v157 (F := Ideal) x0 x1 x2 x4 x5 x6 x7 x8 x9 x10 x11 x12 x13 x14 x15 x16 x17 x18 x19 x20 (ix2 e j)
      = edge (fun k => (val_main_v100 (F := Ideal) x0 x1 x2 x4 x5 x6 x7 x8 x9 x10 : S160000x128.Idx → EReal) (ix2 e k))
          ((val_main_v104 (F := Ideal) x2 : S160000x1.Idx → EReal) (ix2 e 0)) (fun k => (x0 : S160000x128.Idx → EReal) (ix2 e k))
          (fun k => (x11 : S128.Idx → EReal) (ix1 k)) (fun k => (x12 : S128.Idx → EReal) (ix1 k))
          (fun i k => (x13 : S128x64.Idx → EReal) (ix2 i k)) (fun k => (x14 : S64.Idx → EReal) (ix1 k))
          (fun i k => (x15 : S64x128.Idx → EReal) (ix2 i k)) (fun k => (x16 : S128.Idx → EReal) (ix1 k))
          (fun i k => (x17 : S128x64.Idx → EReal) (ix2 i k)) (fun k => (x18 : S64.Idx → EReal) (ix1 k))
          (fun i k => (x19 : S64x128.Idx → EReal) (ix2 i k)) (fun k => (x20 : S128.Idx → EReal) (ix1 k)) j := by
  have h1 := funext fun k => pooled_row x0 x1 x2 x4 x5 x6 x7 x8 x9 x10 x11 x12 e k
  have h2 := funext fun k => first_row x0 x1 x2 x4 x5 x6 x7 x8 x9 x10 x11 x12 x13 x14 x15 x16 e k
  have h3 := second_row x0 x1 x2 x4 x5 x6 x7 x8 x9 x10 x11 x12 x13 x14 x15 x16 x17 x18 x19 x20 e j
  rw [h2, h1] at h3
  refine Eq.trans ?_ (congrArg (fun y => scale * ((x0 : S160000x128.Idx → EReal) (ix2 e j) + y)) h3)
  pointwise [val_main_v155, val_main_cst_29, val_main_v156, val_main_v157]

end Cert.ReferenceIdeal.Layer
-- ==== Proof.Value.Result.lean ====
/- The kernel's result is the reference's function of its arguments, where every crystal index is in range: launch by launch,
   each array the kernel makes is the reference's at the same stage. -/
module

public import proofs.«01_k».proof.Proof.Ideal.Run
public import proofs.«01_k».proof.Proof.Value.Arrays1
public import proofs.«01_k».proof.Proof.Value.Arrays2
public import proofs.«01_k».proof.Proof.Value.Arrays3
public import proofs.«01_k».proof.Proof.Value.Host
public import proofs.«01_k».proof.Proof.Reference.Message
public import proofs.«01_k».proof.Proof.Reference.Edge

@[expose] public section

set_option maxRecDepth 16384

noncomputable section

namespace Cert.KernelIdeal.Result

open Cert.KernelIdeal Cert.KernelIdeal.Gen Cert.KernelIdeal.Calls Cert.KernelIdeal.Arrays Cert.KernelIdeal.Host
open Idealize.ShloMosaic Idealize.ShloMosaic.TcCoe Idealize.SL.Sem Cert.Model
open Cert.ReferenceIdeal.Read Cert.ReferenceIdeal.Layer

/-- A normalised row depends on the row, the mean, the variance and the weights it is made of alone. -/
theorem normed_congr {t t' μ μ' ν ν' g g' b b' : Fin 256 → EReal} (ht : t = t') (hμ : μ = μ') (hν : ν = ν') (hg : g = g')
    (hb : b = b') (j : Fin 256) : normed t μ ν g b j = normed t' μ' ν' g' b' j := by
  subst ht hμ hν hg hb
  rfl

/-- A gated message likewise. -/
theorem message_congr {y y' : Fin 256 → EReal} {w w' g g' b b' : Fin 128 → EReal} (hy : y = y') (hw : w = w') (hg : g = g')
    (hb : b = b') (j : Fin 128) : message y w g b j = message y' w' g' b' j := by
  subst hy hw hg hb
  rfl

/-- An edge's new row depends on the weights' values alone, its data fixed. -/
theorem weights_congr (p : Fin 128 → EReal) (n : EReal) (x : Fin 128 → EReal) {g g' b b' : Fin 128 → EReal}
    {w₁ w₁' : Fin 128 → Fin 64 → EReal} {b₁ b₁' : Fin 64 → EReal} {w₂ w₂' : Fin 64 → Fin 128 → EReal} {b₂ b₂' : Fin 128 → EReal}
    {w₃ w₃' : Fin 128 → Fin 64 → EReal} {b₃ b₃' : Fin 64 → EReal} {w₄ w₄' : Fin 64 → Fin 128 → EReal} {b₄ b₄' : Fin 128 → EReal}
    (hg : g = g') (hb : b = b') (h₁ : w₁ = w₁') (k₁ : b₁ = b₁') (h₂ : w₂ = w₂') (k₂ : b₂ = b₂') (h₃ : w₃ = w₃') (k₃ : b₃ = b₃')
    (h₄ : w₄ = w₄') (k₄ : b₄ = b₄') (j : Fin 128) :
    edge p n x g b w₁ b₁ w₂ b₂ w₃ b₃ w₄ b₄ j = edge p n x g' b' w₁' b₁' w₂' b₂' w₃' b₃' w₄' b₄' j := by
  subst hg hb h₁ k₁ h₂ k₂ h₃ k₃ h₄ k₄
  rfl

-- what the memory and the generators hold at launch
variable (m : (ℓ : Loc nD τ sig) → Buf (Elt Ideal) ℓ) (ρ : Dev nD → PrngReg)

/-- An argument's array at launch. -/
abbrev arg (c : Dev nD) (r : Ref sig .tc) := m ((c : Thread nD τ).loc r)

/-- The reference's rows at the launch's arguments. -/
abbrev pairs (c : Dev nD) : S320000x272.Idx → EReal :=
  val_main_v10 (F := Ideal) (arg m c main_arg0) (arg m c main_arg1) (arg m c main_arg2)
/-- The rows' crystal indices. -/
abbrev crystals (c : Dev nD) : Fin 320000 → BitVec 32 := crystal (arg m c main_arg4)
/-- The reference's products. -/
abbrev products (c : Dev nD) : Fin 320000 → Fin 256 → EReal :=
  product (arg m c main_arg0) (arg m c main_arg1) (arg m c main_arg2) (arg m c main_arg5)
/-- The reference's gated messages. -/
abbrev gated (c : Dev nD) : S320000x128.Idx → EReal :=
  val_main_v97 (F := Ideal) (arg m c main_arg0) (arg m c main_arg1) (arg m c main_arg2) (arg m c main_arg4) (arg m c main_arg5)
    (arg m c main_arg6) (arg m c main_arg7) (arg m c main_arg8) (arg m c main_arg9) (arg m c main_arg10)

/-! ## The first launch -/

/-- Its rows are the reference's. -/
theorem rows0_eq (c : Dev nD) : rows0 (V1 m ρ) c = pairs m c := rows_read (W0 m ρ c)

/-- Its crystal indices are the argument. -/
theorem idx_eq (c : Dev nD) : idx (V1 m ρ) c = crystals m c := funext fun a => crystals_read (W0 m ρ c) a

/-- Its weights are the argument. -/
theorem weights0_eq (c : Dev nD) : weights0 (V1 m ρ) c = (arg m c main_arg5 : S272x256.Idx → EReal) :=
  W1_args m ρ c main_arg5 (by decide)

/-- Its products are the reference's. -/
theorem lin_eq (c : Dev nD) : lin (V1 m ρ) c = products m c := by
  funext a j
  refine (Finset.sum_congr rfl fun k _ => ?_ : lin (V1 m ρ) c a j = ∑ k : Fin 272, pairs m c (ix2 a k)
    * (arg m c main_arg5 : S272x256.Idx → EReal) (ix2 k j))
  exact congrArg₂ (· * ·) (congrFun (rows0_eq m ρ c) (ix2 a k)) (congrFun (weights0_eq m ρ c) (ix2 k j))

/-! ## The second launch -/

/-- Its rows are the reference's products. -/
theorem rows1_eq (c : Dev nD) : rows1 (V3 m ρ) c = fun i => products m c (i 0) (i 1) := by
  have h : rows1 (V3 m ρ) c = (fun i => lin (V1 m ρ) c (i 0) (i 1) : S320000x256.Idx → EReal) :=
    ((W3_of m ρ c main_v12_0 (by decide)).trans (W2_arr m ρ c 3)).trans (Arrays.products (V1 m ρ) c)
  rw [h, lin_eq]

/-- Its crystal indices are the argument. -/
theorem crys1_eq (c : Dev nD) (a : Fin 320000) : crys1 (V3 m ρ) c (ix2 a 0) = crystals m c a := by
  have h : crys1 (V3 m ρ) c = crys0 (V1 m ρ) c :=
    (W3_of m ρ c main_v11 (by decide)).trans (W2_of m ρ c main_v11 (by decide))
  rw [h]
  exact congrFun (idx_eq m ρ c) a

/-- Its sums are the reference's products summed by crystal. -/
theorem sums1_eq (c : Dev nD) (g j : Fin 256) :
    sums1 (V3 m ρ) c (ix2 g j) = total (crystals m c) (fun a => products m c a j) g := by
  have h : sums1 (V3 m ρ) c = ((dat0 (V1 m ρ) c).arrAt 4 cfg0.N : S256x256.Idx → EReal) :=
    (W3_of m ρ c main_v12_1 (by decide)).trans (W2_arr m ρ c 4)
  rw [h, Arrays.sums, lin_eq, idx_eq]

/-- Its sums of squares are the products' squares summed by crystal. -/
theorem squares1_eq (c : Dev nD) (g j : Fin 256) :
    squares1 (V3 m ρ) c (ix2 g j) = total (crystals m c) (fun a => products m c a j * products m c a j) g := by
  have h : squares1 (V3 m ρ) c = ((dat0 (V1 m ρ) c).arrAt 5 cfg0.N : S256x256.Idx → EReal) :=
    (W3_of m ρ c main_v12_2 (by decide)).trans (W2_arr m ρ c 5)
  rw [h, Arrays.squares, lin_eq, idx_eq]

/-- Its counts are the crystals' numbers of rows. -/
theorem counts1_eq (c : Dev nD) (g : Fin 256) : counts1 (V3 m ρ) c (ix2 0 g) = countOf (crystals m c) g := by
  have h : counts1 (V3 m ρ) c = ((dat0 (V1 m ρ) c).arrAt 6 cfg0.N : S1x256.Idx → EReal) :=
    (W3_of m ρ c main_v12_3 (by decide)).trans (W2_arr m ρ c 6)
  rw [h, Arrays.counts, idx_eq]

/-- The scale of the normalisation: the argument. -/
theorem scale1_eq (c : Dev nD) (j : Fin 256) : scale1 (V3 m ρ) c (ix2 0 j) = (arg m c main_arg6 : S256.Idx → EReal) (ix1 j) :=
  (scale_read (W2 m ρ c) j).trans (congrFun (W2_args m ρ c main_arg6 (by decide)) (ix1 j))

/-- The shift of the normalisation: the argument. -/
theorem shift1_eq (c : Dev nD) (j : Fin 256) : shift1 (V3 m ρ) c (ix2 0 j) = (arg m c main_arg7 : S256.Idx → EReal) (ix1 j) :=
  (shift_read (W2 m ρ c) j).trans (congrFun (W2_args m ρ c main_arg7 (by decide)) (ix1 j))

/-- The gate's weights: the argument. -/
theorem gate1_eq (c : Dev nD) : gate1 (V3 m ρ) c = (arg m c main_arg8 : S128x1.Idx → EReal) :=
  W3_args m ρ c main_arg8 (by decide)

/-- The layer normalisation's scale: the argument. -/
theorem gain1_eq (c : Dev nD) (j : Fin 128) : gain1 (V3 m ρ) c (ix2 0 j) = (arg m c main_arg9 : S128.Idx → EReal) (ix1 j) :=
  (gain_read (W2 m ρ c) j).trans (congrFun (W2_args m ρ c main_arg9 (by decide)) (ix1 j))

/-- The layer normalisation's shift: the argument. -/
theorem bias1_eq (c : Dev nD) (j : Fin 128) : bias1 (V3 m ρ) c (ix2 0 j) = (arg m c main_arg10 : S128.Idx → EReal) (ix1 j) :=
  (bias_read (W2 m ρ c) j).trans (congrFun (W2_args m ρ c main_arg10 (by decide)) (ix1 j))

/-- Its normalised rows, each by its own crystal's mean and variance. -/
theorem normed1_eq (c : Dev nD) (a : Fin 320000) (g : Fin 256) (j : Fin 256) :
    normed1 (V3 m ρ) c a g j
      = normed (products m c a) (mean (crystals m c) (products m c) g) (variance (crystals m c) (products m c) g)
          (fun j => (arg m c main_arg6 : S256.Idx → EReal) (ix1 j)) (fun j => (arg m c main_arg7 : S256.Idx → EReal) (ix1 j)) j := by
  unfold normed1
  have hμ : ∀ j, over (sums1 (V3 m ρ) c (ix2 g j)) (counts1 (V3 m ρ) c (ix2 0 g)) = mean (crystals m c) (products m c) g j :=
    fun j => congrArg₂ over (sums1_eq m ρ c g j) (counts1_eq m ρ c g)
  have hν : ∀ j, over (squares1 (V3 m ρ) c (ix2 g j)) (counts1 (V3 m ρ) c (ix2 0 g))
      = over (total (crystals m c) (fun a => products m c a j * products m c a j) g) (countOf (crystals m c) g) :=
    fun j => congrArg₂ over (squares1_eq m ρ c g j) (counts1_eq m ρ c g)
  exact normed_congr (funext fun j => congrFun (rows1_eq m ρ c) (ix2 a j)) (funext hμ)
    (funext fun j => congrArg₂ (fun q μ => q - μ * μ) (hν j) (hμ j))
    (funext fun j => scale1_eq m ρ c j) (funext fun j => shift1_eq m ρ c j) j

/-- Its messages are the reference's. -/
theorem message1_eq (c : Dev nD) (g : Fin 320000 → Fin 256) (hg : ∀ a, crystals m c a = BitVec.ofNat 32 (g a).val) :
    (fun i => message1 (V3 m ρ) c g (i 0) (i 1) : S320000x128.Idx → EReal) = gated m c := by
  funext i
  obtain ⟨a, j, rfl⟩ : ∃ (a : Fin 320000) (j : Fin 128), i = ix2 a j := ⟨i 0, i 1, eq_ix2 i⟩
  refine Eq.trans ?_ (message_row _ _ _ _ _ _ _ _ _ _ a j).symm
  show message1 (V3 m ρ) c g a j = _
  unfold message1
  have hn : normed1 (V3 m ρ) c a (g a) = fun j => (val_main_v61 (F := Ideal) (arg m c main_arg0) (arg m c main_arg1)
      (arg m c main_arg2) (arg m c main_arg4) (arg m c main_arg5) (arg m c main_arg6) (arg m c main_arg7)
      : S320000x256.Idx → EReal) (ix2 a j) := by
    funext j
    exact (normed1_eq m ρ c a (g a) j).trans (normed_row _ _ _ _ _ _ _ a (g a) (hg a) j).symm
  exact message_congr hn (funext fun k => congrFun (gate1_eq m ρ c) (ix2 k 0)) (funext fun k => gain1_eq m ρ c k)
    (funext fun k => bias1_eq m ρ c k) j

/-! ## The third launch -/

/-- The source indices it pools by are the reference's. -/
theorem sources_eq (c : Dev nD) : (W4 m ρ c (Proc.devRef .tc main_v1) : S320000.Idx → BitVec 32)
    = val_main_v1 (F := Ideal) (arg m c main_arg2) :=
  (((W4_of m ρ c main_v1 (by decide)).trans (W3_of m ρ c main_v1 (by decide))).trans (W2_of m ρ c main_v1 (by decide))).trans
    (sources_read (W0 m ρ c))

/-- The messages it pools are the reference's. -/
theorem messages_eq (c : Dev nD) (g : Fin 320000 → Fin 256) (hg : ∀ a, crystals m c a = BitVec.ofNat 32 (g a).val) :
    (W4 m ρ c (Proc.devRef .tc main_v17) : S320000x128.Idx → EReal) = gated m c :=
  ((W4_arr m ρ c 10).trans (messages (V3 m ρ) c g fun a => (crys1_eq m ρ c a).trans (hg a))).trans (message1_eq m ρ c g hg)

/-- The pooled messages are the reference's. -/
theorem pooled_eq (c : Dev nD) (g : Fin 320000 → Fin 256) (hg : ∀ a, crystals m c a = BitVec.ofNat 32 (g a).val) :
    pooled2 (V5 m ρ) c = (val_main_v100 (F := Ideal) (arg m c main_arg0) (arg m c main_arg1) (arg m c main_arg2)
      (arg m c main_arg4) (arg m c main_arg5) (arg m c main_arg6) (arg m c main_arg7) (arg m c main_arg8) (arg m c main_arg9)
      (arg m c main_arg10) : S160000x128.Idx → EReal) := by
  refine (pooled_read (W4 m ρ c)).trans ?_
  show Host.scatterAdd (F := Ideal) (φ := .f32) _ _ (broadcastInDim S320000x1 ![0] bcast_S320000_S320000x1_0
    (W4 m ρ c (Proc.devRef .tc main_v1) : S320000.Idx → BitVec 32)) (W4 m ρ c (Proc.devRef .tc main_v17) : S320000x128.Idx → EReal) = _
  rw [sources_eq, messages_eq m ρ c g hg]
  rfl

/-- The numbers of messages are the reference's. -/
theorem number_eq (c : Dev nD) :
    number2 (V5 m ρ) c = (val_main_v104 (F := Ideal) (arg m c main_arg2) : S160000x1.Idx → EReal) := by
  refine (number_read (W4 m ρ c)).trans ?_
  show Host.scatterAdd (F := Ideal) (φ := .f32) _ _ (broadcastInDim S320000x1 ![0] bcast_S320000_S320000x1_0
    (W4 m ρ c (Proc.devRef .tc main_v1) : S320000.Idx → BitVec 32)) _ = _
  rw [sources_eq]
  rfl

/-- The edges' old rows: the argument. -/
theorem rows2_eq (c : Dev nD) : rows2 (V5 m ρ) c = (arg m c main_arg0 : S160000x128.Idx → EReal) :=
  W5_args m ρ c main_arg0 (by decide)

/-- The layer normalisation's scale: the argument. -/
theorem gamma2_eq (c : Dev nD) (j : Fin 128) : gamma2 (V5 m ρ) c (ix2 0 j) = (arg m c main_arg11 : S128.Idx → EReal) (ix1 j) :=
  (gamma_read (W4 m ρ c) j).trans (congrFun (W4_args m ρ c main_arg11 (by decide)) (ix1 j))

/-- The layer normalisation's shift: the argument. -/
theorem beta2_eq (c : Dev nD) (j : Fin 128) : beta2 (V5 m ρ) c (ix2 0 j) = (arg m c main_arg12 : S128.Idx → EReal) (ix1 j) :=
  (beta_read (W4 m ρ c) j).trans (congrFun (W4_args m ρ c main_arg12 (by decide)) (ix1 j))

/-- The first hidden layer's weights in: the argument. -/
theorem first2_eq (c : Dev nD) : first2 (V5 m ρ) c = (arg m c main_arg13 : S128x64.Idx → EReal) :=
  W5_args m ρ c main_arg13 (by decide)

/-- The first hidden layer's bias in: the argument. -/
theorem firstBias2_eq (c : Dev nD) (j : Fin 64) :
    firstBias2 (V5 m ρ) c (ix2 0 j) = (arg m c main_arg14 : S64.Idx → EReal) (ix1 j) :=
  (firstBias_read (W4 m ρ c) j).trans (congrFun (W4_args m ρ c main_arg14 (by decide)) (ix1 j))

/-- The first hidden layer's weights out: the argument. -/
theorem second2_eq (c : Dev nD) : second2 (V5 m ρ) c = (arg m c main_arg15 : S64x128.Idx → EReal) :=
  W5_args m ρ c main_arg15 (by decide)

/-- The first hidden layer's bias out: the argument. -/
theorem secondBias2_eq (c : Dev nD) (j : Fin 128) :
    secondBias2 (V5 m ρ) c (ix2 0 j) = (arg m c main_arg16 : S128.Idx → EReal) (ix1 j) :=
  (secondBias_read (W4 m ρ c) j).trans (congrFun (W4_args m ρ c main_arg16 (by decide)) (ix1 j))

/-- The second hidden layer's weights in: the argument. -/
theorem third2_eq (c : Dev nD) : third2 (V5 m ρ) c = (arg m c main_arg17 : S128x64.Idx → EReal) :=
  W5_args m ρ c main_arg17 (by decide)

/-- The second hidden layer's bias in: the argument. -/
theorem thirdBias2_eq (c : Dev nD) (j : Fin 64) :
    thirdBias2 (V5 m ρ) c (ix2 0 j) = (arg m c main_arg18 : S64.Idx → EReal) (ix1 j) :=
  (thirdBias_read (W4 m ρ c) j).trans (congrFun (W4_args m ρ c main_arg18 (by decide)) (ix1 j))

/-- The second hidden layer's weights out: the argument. -/
theorem fourth2_eq (c : Dev nD) : fourth2 (V5 m ρ) c = (arg m c main_arg19 : S64x128.Idx → EReal) :=
  W5_args m ρ c main_arg19 (by decide)

/-- The second hidden layer's bias out: the argument. -/
theorem fourthBias2_eq (c : Dev nD) (j : Fin 128) :
    fourthBias2 (V5 m ρ) c (ix2 0 j) = (arg m c main_arg20 : S128.Idx → EReal) (ix1 j) :=
  (fourthBias_read (W4 m ρ c) j).trans (congrFun (W4_args m ρ c main_arg20 (by decide)) (ix1 j))

/-- The kernel's result array is the reference's function of the arguments, where every crystal index is in range. -/
theorem result_eq (c : Dev nD) (g : Fin 320000 → Fin 256) (hg : ∀ a, crystals m c a = BitVec.ofNat 32 (g a).val) :
    ((dat2 (V5 m ρ) c).arrAt 13 cfg2.N : S160000x128.Idx → EReal)
      = val_main_v157 (F := Ideal) (arg m c main_arg0) (arg m c main_arg1) (arg m c main_arg2) (arg m c main_arg4)
          (arg m c main_arg5) (arg m c main_arg6) (arg m c main_arg7) (arg m c main_arg8) (arg m c main_arg9) (arg m c main_arg10)
          (arg m c main_arg11) (arg m c main_arg12) (arg m c main_arg13) (arg m c main_arg14) (arg m c main_arg15)
          (arg m c main_arg16) (arg m c main_arg17) (arg m c main_arg18) (arg m c main_arg19) (arg m c main_arg20) := by
  refine (edges (V5 m ρ) c).trans (funext fun i => ?_)
  obtain ⟨e, j, rfl⟩ : ∃ (e : Fin 160000) (j : Fin 128), i = ix2 e j := ⟨i 0, i 1, eq_ix2 i⟩
  refine Eq.trans ?_ (edge_row _ _ _ _ _ _ _ _ _ _ _ _ _ _ _ _ _ _ _ _ e j).symm
  show edge2 (V5 m ρ) c e j = _
  unfold edge2
  refine (edge_congr (funext fun k => congrFun (pooled_eq m ρ c g hg) (ix2 e k)) (congrFun (number_eq m ρ c) (ix2 e 0))
    (funext fun k => congrFun (rows2_eq m ρ c) (ix2 e k)) _ _ _ _ _ _ _ _ _ _ j).trans ?_
  exact weights_congr _ _ _ (funext fun k => gamma2_eq m ρ c k) (funext fun k => beta2_eq m ρ c k)
    (funext fun i => funext fun k => congrFun (first2_eq m ρ c) (ix2 i k)) (funext fun k => firstBias2_eq m ρ c k)
    (funext fun i => funext fun k => congrFun (second2_eq m ρ c) (ix2 i k)) (funext fun k => secondBias2_eq m ρ c k)
    (funext fun i => funext fun k => congrFun (third2_eq m ρ c) (ix2 i k)) (funext fun k => thirdBias2_eq m ρ c k)
    (funext fun i => funext fun k => congrFun (fourth2_eq m ρ c) (ix2 i k)) (funext fun k => fourthBias2_eq m ρ c k) j

end Cert.KernelIdeal.Result
-- ==== Proof.lean ====
/- The certificate: each claim by the lemma that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Bits.Run
public import proofs.«01_k».proof.Proof.Ideal.Run
public import proofs.«01_k».proof.Proof.Reference.Value
public import proofs.«01_k».proof.Proof.Value.Named
public import proofs.«01_k».proof.Proof.Value.Result
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel on machine words runs, keeps its arguments and ends with every counter at zero. -/
theorem frame_kernel : Cert.quiescent_Kernel := fun m ρ _ => Cert.Kernel.Calls.frame m ρ

/-- So does the kernel on exact numbers. -/
theorem frame_ideal : Cert.quiescent_KernelIdeal := fun m ρ _ => Cert.KernelIdeal.Calls.frame m ρ

/-- So does the reference, a straight line of host operations that declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Under the precondition too: the runs ask nothing of the arguments. -/
theorem frame_ideal_named [Cert.Pre_crystals_named.Facts] : Cert.quiescent_KernelIdeal_pre_crystals_named :=
  fun m ρ _ => Cert.KernelIdeal.Calls.frame m ρ

theorem frame_reference_named [Cert.Pre_crystals_named.Facts] : Cert.quiescent_ReferenceIdeal_pre_crystals_named :=
  fun m ρ _ => frame_reference m ρ trivial

/-- From the same arguments, every crystal index in range, the kernel on exact numbers and the reference end with the same
    result: the array the last launch leaves is the reference's function of the arguments. -/
theorem same_result [Cert.Pre_crystals_named.Facts] : Cert.algebraic_KernelIdeal_ReferenceIdeal_pre_crystals_named :=
  fun m ρ m' ρ' hpre hm => by
    refine ⟨fun c => (Cert.KernelIdeal.Calls.dat2 (Cert.KernelIdeal.Calls.V5 m ρ) c).arrAt 13 Cert.KernelIdeal.cfg2.N, ?_, ?_⟩
    · exact θ_run_mono (θ_run_and (Cert.KernelIdeal.Calls.result m ρ) (Cert.KernelIdeal.Calls.frame m ρ))
        fun r h c => ⟨h.1 c, h.2.1 c⟩
    · refine θ_run_mono (Cert.ReferenceIdeal.Value.run (F := Ideal) m' ρ') fun r h c => ⟨(h c).1.trans ?_, (h c).2⟩
      obtain ⟨g, hg⟩ := Cert.Pre_crystals_named.named (hpre c)
      refine (Cert.ReferenceIdeal.Read.val_main_v157_eq (StableHlo.launchContents m' c)).trans ?_
      refine Eq.trans ?_ (Cert.KernelIdeal.Result.result_eq m ρ c g hg).symm
      obtain ⟨h0, h1, h2, -, h4, h5, h6, h7, h8, h9, h10, h11, h12, h13, h14, h15, h16, h17, h18, h19, h20⟩ := hm c
      congr 1 -- the arguments agree, one by one

/-- Everything claimed. -/
theorem claim : Cert.Claim := ⟨Cert.Kernel.Gen.facts, Cert.KernelIdeal.Gen.facts, Cert.ReferenceIdeal.Gen.facts,
  Cert.Pre_crystals_named.facts, frame_kernel, frame_ideal, frame_ideal_named, frame_reference, frame_reference_named, trivial,
  same_result⟩

end Cert.Proof

end
